-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![32768, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S4096x512 : Shape := ⟨2, ![4096, 512]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S4096x512 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 32768#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_range_ReferenceIdeal.lean ====
abbrev S32768x512 : Shape := ⟨2, ![32768, 512]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S32768x512 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 32768#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S4096x512 : Shape := ⟨2, ![4096, 512]⟩
abbrev S1024 : Shape := ⟨1, ![1024]⟩
abbrev S_ : Shape := ⟨0, ![]⟩
abbrev S8x128 : Shape := ⟨2, ![8, 128]⟩
abbrev S128x8 : Shape := ⟨2, ![128, 8]⟩
abbrev S8 : Shape := ⟨1, ![8]⟩
abbrev S8x1 : Shape := ⟨2, ![8, 1]⟩
abbrev S1 : Shape := ⟨1, ![1]⟩
abbrev S1x1 : Shape := ⟨2, ![1, 1]⟩
abbrev S1024x512 : Shape := ⟨2, ![1024, 512]⟩
abbrev S8x128x512 : Shape := ⟨3, ![8, 128, 512]⟩
abbrev S128x4096 : Shape := ⟨2, ![128, 4096]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 61
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8x128, .i32⟩
  | .hbm, ⟨9, _⟩ => ⟨S128x8, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S_, .i1⟩
  | .hbm, ⟨31, _⟩ => ⟨S8, .i1⟩
  | .hbm, ⟨32, _⟩ => ⟨S8, .i1⟩
  | .hbm, ⟨33, _⟩ => ⟨S8, .i1⟩
  | .hbm, ⟨34, _⟩ => ⟨S8, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S8, .i32⟩
  | .hbm, ⟨44, _⟩ => ⟨S8x1, .i32⟩
  | .hbm, ⟨45, _⟩ => ⟨S1, .i32⟩
  | .hbm, ⟨46, _⟩ => ⟨S_, .i32⟩
  | .hbm, ⟨47, _⟩ => ⟨S8x1, .i32⟩
  | .hbm, ⟨48, _⟩ => ⟨S8x1, .i1⟩
  | .hbm, ⟨49, _⟩ => ⟨S1x1, .i32⟩
  | .hbm, ⟨50, _⟩ => ⟨S8x1, .i32⟩
  | .hbm, ⟨51, _⟩ => ⟨S8x1, .i1⟩
  | .hbm, ⟨52, _⟩ => ⟨S8x1, .i1⟩
  | .hbm, ⟨53, _⟩ => ⟨S_, .i1⟩
  | .hbm, ⟨54, _⟩ => ⟨S8, .i1⟩
  | .hbm, ⟨55, _⟩ => ⟨S128x8, .i32⟩
  | .hbm, ⟨56, _⟩ => ⟨S128x8, .i1⟩
  | .hbm, ⟨57, _⟩ => ⟨S_, .i32⟩
  | .hbm, ⟨58, _⟩ => ⟨S128x8, .i32⟩
  | .hbm, ⟨59, _⟩ => ⟨S128x8, .i32⟩
  | .hbm, ⟨60, _⟩ => ⟨S1024x512, .f32⟩
  | .local _ .vmem, ⟨0, _⟩ => ⟨S128x8, .i32⟩
  | .local _ .vmem, ⟨1, _⟩ => ⟨S4096x512, .f32⟩
  | .local _ .vmem, ⟨2, _⟩ => ⟨S1024x512, .f32⟩
  | .local _ .vmem, ⟨3, _⟩ => ⟨S8x128x512, .bf16⟩
  | .local _ .vmem, ⟨4, _⟩ => ⟨S8x128x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v11 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_c_4 : Ref sig .tc := ⟨.hbm, 57, rfl⟩
abbrev main_call1_v15 : Ref sig .tc := ⟨.hbm, 58, rfl⟩
abbrev main_v12 : Ref sig .tc := ⟨.hbm, 59, rfl⟩
abbrev main_v13 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_31 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v37 : BitVec 32 := Scalar.addi v2 c1_i32_30
  let v38 : BitVec 32 := Scalar.addi v37 c0_i32_31
  let c8_i32_32 : BitVec 32 := 8#32
  let v39 : BitVec 32 := Scalar.remsi v38 c8_i32_32
  let v51 : Index := Scalar.indexCast v39
  let c0_35 : Index := 0#32
  let c0_36 : Index := 0#32
  ![v51.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_40 : BitVec 32 := 0#32
  let c0_i32_41 : BitVec 32 := 0#32
  ![v2.toNat, 0, 0]
def k0_off4 (d0 : Dev nD) (c0_i32_31 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v37 : BitVec 32 := Scalar.addi v2 c1_i32_30
  let v38 : BitVec 32 := Scalar.addi v37 c0_i32_31
  let c8_i32_32 : BitVec 32 := 8#32
  let v39 : BitVec 32 := Scalar.remsi v38 c8_i32_32
  let c0_i32_42 : BitVec 32 := 0#32
  let c0_i32_43 : BitVec 32 := 0#32
  ![v39.toNat, 0, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v37 : BitVec 32 := Scalar.addi v2 c1_i32_30
  let c0_i32_31 : BitVec 32 := 0#32
  let v38 : BitVec 32 := Scalar.addi v37 c0_i32_31
  let c8_i32_32 : BitVec 32 := 8#32
  let v39 : BitVec 32 := Scalar.remsi v38 c8_i32_32
  let c1_i32_38 : BitVec 32 := 1#32
  let v55 : BitVec 32 := Scalar.muli v39 c1_i32_38
  let v56 : BitVec 32 := Scalar.addi c0_i32_39 v55
  v56.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_44 : BitVec 32 := 1#32
  let v65 : BitVec 32 := Scalar.addi v2 c1_i32_44
  let c1_i32_45 : BitVec 32 := 1#32
  let v66 : BitVec 32 := Scalar.addi v65 c1_i32_45
  let c8_i32_46 : BitVec 32 := 8#32
  let v67 : BitVec 32 := Scalar.remsi v66 c8_i32_46
  let c1_i32_52 : BitVec 32 := 1#32
  let v83 : BitVec 32 := Scalar.muli v67 c1_i32_52
  let v84 : BitVec 32 := Scalar.addi c0_i32_53 v83
  v84.toNat
def k0_dev10 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v93 : BitVec 32 := Scalar.addi v2 c1_i32_58
  let c2_i32_59 : BitVec 32 := 2#32
  let v94 : BitVec 32 := Scalar.addi v93 c2_i32_59
  let c8_i32_60 : BitVec 32 := 8#32
  let v95 : BitVec 32 := Scalar.remsi v94 c8_i32_60
  let c1_i32_66 : BitVec 32 := 1#32
  let v111 : BitVec 32 := Scalar.muli v95 c1_i32_66
  let v112 : BitVec 32 := Scalar.addi c0_i32_67 v111
  v112.toNat
def k0_dev11 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v121 : BitVec 32 := Scalar.addi v2 c1_i32_72
  let c3_i32_73 : BitVec 32 := 3#32
  let v122 : BitVec 32 := Scalar.addi v121 c3_i32_73
  let c8_i32_74 : BitVec 32 := 8#32
  let v123 : BitVec 32 := Scalar.remsi v122 c8_i32_74
  let c1_i32_80 : BitVec 32 := 1#32
  let v139 : BitVec 32 := Scalar.muli v123 c1_i32_80
  let v140 : BitVec 32 := Scalar.addi c0_i32_81 v139
  v140.toNat
def k0_dev12 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v149 : BitVec 32 := Scalar.addi v2 c1_i32_86
  let c4_i32_87 : BitVec 32 := 4#32
  let v150 : BitVec 32 := Scalar.addi v149 c4_i32_87
  let c8_i32_88 : BitVec 32 := 8#32
  let v151 : BitVec 32 := Scalar.remsi v150 c8_i32_88
  let c1_i32_94 : BitVec 32 := 1#32
  let v167 : BitVec 32 := Scalar.muli v151 c1_i32_94
  let v168 : BitVec 32 := Scalar.addi c0_i32_95 v167
  v168.toNat
def k0_dev13 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_100 : BitVec 32 := 1#32
  let v177 : BitVec 32 := Scalar.addi v2 c1_i32_100
  let c5_i32_101 : BitVec 32 := 5#32
  let v178 : BitVec 32 := Scalar.addi v177 c5_i32_101
  let c8_i32_102 : BitVec 32 := 8#32
  let v179 : BitVec 32 := Scalar.remsi v178 c8_i32_102
  let c1_i32_108 : BitVec 32 := 1#32
  let v195 : BitVec 32 := Scalar.muli v179 c1_i32_108
  let v196 : BitVec 32 := Scalar.addi c0_i32_109 v195
  v196.toNat
def k0_dev14 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v205 : BitVec 32 := Scalar.addi v2 c1_i32_114
  let c6_i32_115 : BitVec 32 := 6#32
  let v206 : BitVec 32 := Scalar.addi v205 c6_i32_115
  let c8_i32_116 : BitVec 32 := 8#32
  let v207 : BitVec 32 := Scalar.remsi v206 c8_i32_116
  let c1_i32_122 : BitVec 32 := 1#32
  let v223 : BitVec 32 := Scalar.muli v207 c1_i32_122
  let v224 : BitVec 32 := Scalar.addi c0_i32_123 v223
  v224.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v251 : Index := Scalar.indexCast v2
  let c0_135 : Index := 0#32
  let c0_136 : Index := 0#32
  ![v251.toNat, 0, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v355 : BitVec 32 := Scalar.muli v2 c128_i32
  let v356 : Index := Scalar.indexCast v355
  let c0_221 : Index := 0#32
  ![v356.toNat, 0]
def k0_dev15 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_224 : BitVec 32 := 1#32
  let v363 : BitVec 32 := Scalar.addi v2 c1_i32_224
  let c0_i32_225 : BitVec 32 := 0#32
  let v364 : BitVec 32 := Scalar.addi v363 c0_i32_225
  let c8_i32_226 : BitVec 32 := 8#32
  let v365 : BitVec 32 := Scalar.remsi v364 c8_i32_226
  let c1_i32_228 : BitVec 32 := 1#32
  let v366 : BitVec 32 := Scalar.muli v365 c1_i32_228
  let v367 : BitVec 32 := Scalar.addi c0_i32_229 v366
  v367.toNat
def k0_dev16 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_234 : BitVec 32 := 1#32
  let v376 : BitVec 32 := Scalar.addi v2 c1_i32_234
  let c1_i32_235 : BitVec 32 := 1#32
  let v377 : BitVec 32 := Scalar.addi v376 c1_i32_235
  let c8_i32_236 : BitVec 32 := 8#32
  let v378 : BitVec 32 := Scalar.remsi v377 c8_i32_236
  let c1_i32_238 : BitVec 32 := 1#32
  let v379 : BitVec 32 := Scalar.muli v378 c1_i32_238
  let v380 : BitVec 32 := Scalar.addi c0_i32_239 v379
  v380.toNat
def k0_dev17 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_244 : BitVec 32 := 1#32
  let v389 : BitVec 32 := Scalar.addi v2 c1_i32_244
  let c2_i32_245 : BitVec 32 := 2#32
  let v390 : BitVec 32 := Scalar.addi v389 c2_i32_245
  let c8_i32_246 : BitVec 32 := 8#32
  let v391 : BitVec 32 := Scalar.remsi v390 c8_i32_246
  let c1_i32_248 : BitVec 32 := 1#32
  let v392 : BitVec 32 := Scalar.muli v391 c1_i32_248
  let v393 : BitVec 32 := Scalar.addi c0_i32_249 v392
  v393.toNat
def k0_dev18 (d0 : Dev nD) : Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_254 : BitVec 32 := 1#32
  let v402 : BitVec 32 := Scalar.addi v2 c1_i32_254
  let c3_i32_255 : BitVec 32 := 3#32
  let v403 : BitVec 32 := Scalar.addi v402 c3_i32_255
  let c8_i32_256 : BitVec 32 := 8#32
  let v404 : BitVec 32 := Scalar.remsi v403 c8_i32_256
  let c1_i32_258 : BitVec 32 := 1#32
  let v405 : BitVec 32 := Scalar.muli v404 c1_i32_258
  let v406 : BitVec 32 := Scalar.addi c0_i32_259 v405
  v406.toNat
def k0_dev19 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_264 : BitVec 32 := 1#32
  let v415 : BitVec 32 := Scalar.addi v2 c1_i32_264
  let c4_i32_265 : BitVec 32 := 4#32
  let v416 : BitVec 32 := Scalar.addi v415 c4_i32_265
  let c8_i32_266 : BitVec 32 := 8#32
  let v417 : BitVec 32 := Scalar.remsi v416 c8_i32_266
  let c1_i32_268 : BitVec 32 := 1#32
  let v418 : BitVec 32 := Scalar.muli v417 c1_i32_268
  let v419 : BitVec 32 := Scalar.addi c0_i32_269 v418
  v419.toNat
def k0_dev20 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_274 : BitVec 32 := 1#32
  let v428 : BitVec 32 := Scalar.addi v2 c1_i32_274
  let c5_i32_275 : BitVec 32 := 5#32
  let v429 : BitVec 32 := Scalar.addi v428 c5_i32_275
  let c8_i32_276 : BitVec 32 := 8#32
  let v430 : BitVec 32 := Scalar.remsi v429 c8_i32_276
  let c1_i32_278 : BitVec 32 := 1#32
  let v431 : BitVec 32 := Scalar.muli v430 c1_i32_278
  let v432 : BitVec 32 := Scalar.addi c0_i32_279 v431
  v432.toNat
def k0_dev21 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_284 : BitVec 32 := 1#32
  let v441 : BitVec 32 := Scalar.addi v2 c1_i32_284
  let c6_i32_285 : BitVec 32 := 6#32
  let v442 : BitVec 32 := Scalar.addi v441 c6_i32_285
  let c8_i32_286 : BitVec 32 := 8#32
  let v443 : BitVec 32 := Scalar.remsi v442 c8_i32_286
  let c1_i32_288 : BitVec 32 := 1#32
  let v444 : BitVec 32 := Scalar.muli v443 c1_i32_288
  let v445 : BitVec 32 := Scalar.addi c0_i32_289 v444
  v445.toNat
abbrev stage0_0 : Fin 1 → Memref sig .tc .vmem S128x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32768x512 : Shape := ⟨2, ![32768, 512]⟩
abbrev S1024 : Shape := ⟨1, ![1024]⟩
abbrev S_ : Shape := ⟨0, ![]⟩
abbrev S1024x1 : Shape := ⟨2, ![1024, 1]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.KernelIdeal.Geometry.lean ====
/-
  Where things lie: the eight slots of a scratch buffer, what a load, a store and a copy of one
  slot touch and carry, and the names of the semaphores in the four arrays.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Tactic
public import Idealize.ShloMosaic.Lib.Pipeline.Kit

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The peers -/

/-- The `t`-th peer of device `c`, counting from its right neighbour; the seventh is `c` itself. -/
def around (c : Dev nD) (t : ℕ) : Dev nD := ⟨(c.val + t + 1) % 8, Nat.mod_lt _ (by decide)⟩

theorem around_seven (c : Dev nD) : around c 7 = c := by
  revert c; decide

theorem around_ne (c : Dev nD) {t : ℕ} (ht : t < 7) : around c t ≠ c := by
  have : ∀ (c : Dev nD) (t : Fin 7), around c t.val ≠ c := by decide
  exact this c ⟨t, ht⟩

/-- The peers in the order in which they are served, as an embedding of `Fin 7`. -/
def peerEmb (c : Dev nD) : Fin 7 ↪ Dev nD :=
  ⟨fun t => around c t.val, by revert c; decide⟩

theorem map_peerEmb (c : Dev nD) :
    (Finset.univ : Finset (Fin 7)).map (peerEmb c) = (Finset.univ : Finset (Dev nD)).erase c := by
  revert c; decide

/-- All devices in the order in which their chunks are computed. -/
def aroundEmb (c : Dev nD) : Fin 8 ↪ Dev nD :=
  ⟨fun t => around c t.val, by revert c; decide⟩

theorem map_aroundEmb (c : Dev nD) :
    (Finset.univ : Finset (Fin 8)).map (aroundEmb c) = (Finset.univ : Finset (Dev nD)) := by
  revert c; decide

/-! ## One slot of a scratch buffer -/

theorem slot_inb (k : Fin 8) : ∀ a, (![k.val, 0, 0] : Fin 3 → Nat) a + S1x128x512.size a ≤ S8x128x512.size a := by
  revert k; decide

/-- The elements of slot `k`. -/
abbrev slotRect (k : Fin 8) : Rect S8x128x512 := Rect.unit (s := S8x128x512) ![k.val, 0, 0] S1x128x512.size (slot_inb k)

/-- The elements of slot `k`, as a set. -/
def slotSet (k : Fin 8) : Finset S8x128x512.Idx := (slotRect k).set

theorem mem_slotSet {k : Fin 8} {i : S8x128x512.Idx} : i ∈ slotSet k ↔ (i 0).val = k.val := by
  unfold slotSet
  rw [Rect.mem_set_unit]
  constructor
  · intro h
    have := h 0
    simp [S1x128x512] at this
    omega
  · intro h a
    have h1 : (i 1).val < 128 := (i 1).isLt
    have h2 : (i 2).val < 512 := (i 2).isLt
    fin_cases a
    · simp [S1x128x512]; omega
    · simp [S1x128x512]; omega
    · simp [S1x128x512]; omega

theorem slotSet_disjoint {k k' : Fin 8} (h : k ≠ k') : Disjoint (slotSet k) (slotSet k') := by
  rw [Finset.disjoint_left]
  intro i hi hi'
  exact h (Fin.ext ((mem_slotSet.mp hi).symm.trans (mem_slotSet.mp hi')))

theorem biUnion_slotSet : (Finset.univ : Finset (Fin 8)).biUnion slotSet = Finset.univ := by
  ext i
  simp only [Finset.mem_biUnion, Finset.mem_univ, true_and, iff_true]
  exact ⟨⟨(i 0).val, (i 0).isLt⟩, mem_slotSet.mpr rfl⟩

/-- A slot's values, laid over every slot of a buffer. -/
def spread {α : Type} (v : S1x128x512.Idx → α) : S8x128x512.Idx → α :=
  fun i => v fun a => match a with
    | ⟨0, _⟩ => (0 : Fin 1)
    | ⟨1, _⟩ => i 1
    | ⟨2, _⟩ => i 2

theorem spread_emb {α : Type} (v : S1x128x512.Idx → α) (k : Fin 8) (x : S1x128x512.Idx) :
    spread v ((slotRect k).emb x) = v x := by
  unfold spread
  congr 1
  funext a
  have h0 : (x 0).val < 1 := (x 0).isLt
  fin_cases a
  · exact Fin.ext (by show (0 : ℕ) = (x 0).val; omega)
  · exact Fin.ext (by
      show (((slotRect k).emb x) 1).val = (x 1).val
      rw [Rect.emb_apply]; simp [slotRect, Rect.unit])
  · exact Fin.ext (by
      show (((slotRect k).emb x) 2).val = (x 2).val
      rw [Rect.emb_apply]; simp [slotRect, Rect.unit])

/-- Every element of a slot is the image of one of the slot's indices. -/
theorem exists_of_mem_slotSet {k : Fin 8} {i : S8x128x512.Idx} (hi : i ∈ slotSet k) :
    ∃ x, (slotRect k).emb x = i :=
  (slotRect k).exists_idx_of_mem hi

/-- The index of a slot at a row and a column. -/
def unsq (y : S128x512.Idx) : S1x128x512.Idx :=
  Shape.reshapeEquiv squeezes_S1x128x512_S128x512.numel_eq y

section Buffers

variable {F : FTy → Type} [FloatOps F]

/-- The rounds a device's cells are counted in: a duty is named by the device that pays it. -/
abbrev UB : Type := URounds (GSem nD τ sig) (Dev nD)
abbrev UU : Type := UR sig nD τ × UB

local notation "𝕄" => MT nD τ sig Unit (Elt F) ℕ UU ℕ

/-! ## the buffer of chunks to send -/

/-- The elements of slot `k` of the buffer of chunks to send on device `c`, at a share. -/
def pPts (c : Dev nD) (k : Fin 8) (q : PosShare TreeShare) (f : S8x128x512.Idx → Elt F .bf16) : sProp 𝕄 :=
  ((c : Thread nD τ).loc cc0_scratch0) ↦[slotSet k]{q} f

/-- The view a copy of one slot of the buffer of chunks to send goes through. -/
abbrev pSlot (off : Fin 3 → ℕ) (hin : ∀ a, off a + S1x128x512.size a ≤ S8x128x512.size a) : Memref sig .tc .vmem S128x512 .bf16 :=
  ((Memref.whole cc0_scratch0 : Memref sig .tc .vmem S8x128x512 .bf16).slice (Rect.unit (s := S8x128x512) off S1x128x512.size hin) (fun _ => rfl)).squeeze
    S128x512 squeezes_S1x128x512_S128x512

theorem pSlot_set (k : Fin 8) : (pSlot ![k.val, 0, 0] (slot_inb k)).view.set = slotSet k := by
  exact (View.set_reshape _ _).trans (View.set_slice_whole _ _)

theorem pSlot_emb (k : Fin 8) (y : S128x512.Idx) :
    (pSlot ![k.val, 0, 0] (slot_inb k)).view.emb y = (slotRect k).emb (unsq y) := rfl

theorem p_access_set (k : Fin 8) :
    ((Memref.whole cc0_scratch0 : Memref sig .tc .vmem S8x128x512 .bf16).access (slotRect k)).set = slotSet k :=
  View.set_slice_whole _ _

/-- A load of slot `k` of a buffer that holds `v` in that slot reads `v`. -/
theorem p_read (k : Fin 8) (v : S1x128x512.Idx → Elt F .bf16) :
    (Memref.whole cc0_scratch0 : Memref sig .tc .vmem S8x128x512 .bf16).view.readAt (Elt F) (slotRect k).toLoadRect (spread v) = v :=
  funext fun x => spread_emb v k x

/-- A store of `w` to slot `k` leaves `w` in that slot. -/
theorem p_write (k : Fin 8) (f : S8x128x512.Idx → Elt F .bf16) (w : S1x128x512.Idx → Elt F .bf16) :
    ∀ i ∈ slotSet k, ((Memref.whole cc0_scratch0 : Memref sig .tc .vmem S8x128x512 .bf16).access (slotRect k)).write (Elt F) f w Finset.univ i
      = spread w i := by
  intro i hi
  obtain ⟨x, rfl⟩ := exists_of_mem_slotSet hi
  refine Eq.trans ?_ (spread_emb w k x).symm
  exact View.write_emb_of_mem (v := (Memref.whole cc0_scratch0 : Memref sig .tc .vmem S8x128x512 .bf16).access (slotRect k)) f w (Finset.mem_univ x)

/-! ## the buffer of chunks received -/

/-- The elements of slot `k` of the buffer of chunks received on device `c`, at a share. -/
def rPts (c : Dev nD) (k : Fin 8) (q : PosShare TreeShare) (f : S8x128x512.Idx → Elt F .bf16) : sProp 𝕄 :=
  ((c : Thread nD τ).loc cc0_scratch1) ↦[slotSet k]{q} f

/-- The view a copy of one slot of the buffer of chunks received goes through. -/
abbrev rSlot (off : Fin 3 → ℕ) (hin : ∀ a, off a + S1x128x512.size a ≤ S8x128x512.size a) : Memref sig .tc .vmem S128x512 .bf16 :=
  ((Memref.whole cc0_scratch1 : Memref sig .tc .vmem S8x128x512 .bf16).slice (Rect.unit (s := S8x128x512) off S1x128x512.size hin) (fun _ => rfl)).squeeze
    S128x512 squeezes_S1x128x512_S128x512

theorem rSlot_set (k : Fin 8) : (rSlot ![k.val, 0, 0] (slot_inb k)).view.set = slotSet k := by
  exact (View.set_reshape _ _).trans (View.set_slice_whole _ _)

theorem rSlot_emb (k : Fin 8) (y : S128x512.Idx) :
    (rSlot ![k.val, 0, 0] (slot_inb k)).view.emb y = (slotRect k).emb (unsq y) := rfl

theorem r_access_set (k : Fin 8) :
    ((Memref.whole cc0_scratch1 : Memref sig .tc .vmem S8x128x512 .bf16).access (slotRect k)).set = slotSet k :=
  View.set_slice_whole _ _

/-- A load of slot `k` of a buffer that holds `v` in that slot reads `v`. -/
theorem r_read (k : Fin 8) (v : S1x128x512.Idx → Elt F .bf16) :
    (Memref.whole cc0_scratch1 : Memref sig .tc .vmem S8x128x512 .bf16).view.readAt (Elt F) (slotRect k).toLoadRect (spread v) = v :=
  funext fun x => spread_emb v k x

/-- A store of `w` to slot `k` leaves `w` in that slot. -/
theorem r_write (k : Fin 8) (f : S8x128x512.Idx → Elt F .bf16) (w : S1x128x512.Idx → Elt F .bf16) :
    ∀ i ∈ slotSet k, ((Memref.whole cc0_scratch1 : Memref sig .tc .vmem S8x128x512 .bf16).access (slotRect k)).write (Elt F) f w Finset.univ i
      = spread w i := by
  intro i hi
  obtain ⟨x, rfl⟩ := exists_of_mem_slotSet hi
  refine Eq.trans ?_ (spread_emb w k x).symm
  exact View.write_emb_of_mem (v := (Memref.whole cc0_scratch1 : Memref sig .tc .vmem S8x128x512 .bf16).access (slotRect k)) f w (Finset.mem_univ x)

/-- A copy of slot `k` of the first buffer to slot `j` of the second leaves in slot `j` what slot `k` held. -/
theorem pr_copy (k j : Fin 8) (f : S8x128x512.Idx → Elt F .bf16) (v : S1x128x512.Idx → Elt F .bf16) :
    ∀ i ∈ slotSet j, (rSlot ![j.val, 0, 0] (slot_inb j)).view.write (Elt F) f
        ((pSlot ![k.val, 0, 0] (slot_inb k)).view.read (Elt F) (spread v)) Finset.univ i = spread v i := by
  intro i hi
  rw [← rSlot_set] at hi
  obtain ⟨y, -, rfl⟩ := Finset.mem_map.mp hi
  refine (View.write_emb_of_mem (v := (rSlot ![j.val, 0, 0] (slot_inb j)).view) f _ (Finset.mem_univ y)).trans ?_
  refine Eq.trans (b := spread v ((pSlot ![k.val, 0, 0] (slot_inb k)).view.emb y)) rfl ?_
  rw [pSlot_emb, rSlot_emb, spread_emb, spread_emb]

/-- A copy of slot `k` of the first buffer to slot `j` of the same buffer leaves in slot `j` what slot `k` held. -/
theorem pp_copy (k j : Fin 8) (f : S8x128x512.Idx → Elt F .bf16) (v : S1x128x512.Idx → Elt F .bf16) :
    ∀ i ∈ slotSet j, (pSlot ![j.val, 0, 0] (slot_inb j)).view.write (Elt F) f
        ((pSlot ![k.val, 0, 0] (slot_inb k)).view.read (Elt F) (spread v)) Finset.univ i = spread v i := by
  intro i hi
  rw [← pSlot_set] at hi
  obtain ⟨y, -, rfl⟩ := Finset.mem_map.mp hi
  refine (View.write_emb_of_mem (v := (pSlot ![j.val, 0, 0] (slot_inb j)).view) f _ (Finset.mem_univ y)).trans ?_
  refine Eq.trans (b := spread v ((pSlot ![k.val, 0, 0] (slot_inb k)).view.emb y)) rfl ?_
  rw [pSlot_emb, pSlot_emb, spread_emb, spread_emb]

end Buffers

/-! ## The semaphores -/

theorem sem_row : ∀ (k : Fin 8) (hin : ∀ a, (![k.val] : Fin 1 → ℕ) a + S1.size a ≤ S8.size a),
    (S8.rowMajor ((Rect.unit (s := S8) ![k.val] S1.size hin).emb (Shape.reshapeEquiv squeezes_S1_S_.numel_eq fun i => i.elim0))).val
      = k.val := by
  decide +kernel

/-- The semaphore in position `k` of an array of eight. -/
theorem sem_slice (b : ℕ) (h : b + S8.numel ≤ 35) (k : Fin 8) (off : Fin 1 → ℕ) (hoff : off = ![k.val])
    (hin : ∀ a, off a + S1.size a ≤ S8.size a) :
    (((SemArray.consecutive b S8 h : DmaSems sig S8).slice (Rect.unit (s := S8) off S1.size hin)).squeeze S_ squeezes_S1_S_).sem
      = (⟨b + k.val, Nat.lt_of_lt_of_le (Nat.add_lt_add_left k.isLt b) h⟩ : Fin 35) := by
  subst hoff
  exact Fin.ext (congrArg (b + ·) (sem_row k hin))

end Cert.KernelIdeal.Own
-- ==== Proof.KernelIdeal.Contents.lean ====
/-
  What the kernel computes: the chunk a device contributes to a block of the result, the block summed
  over the devices, and the whole result a device ends with.
-/
module

public import proofs.«01_k».proof.Proof.KernelIdeal.Geometry
public import Idealize.ShloMosaic.Lib.Pipeline.Value

@[expose] public section

noncomputable section

namespace Cert.KernelIdeal.Own

open Cert.KernelIdeal Cert.KernelIdeal.Gen
open Idealize.ShloMosaic Idealize.ShloMosaic.TcCoe
open Idealize.SL Idealize.SL.RA Idealize.SL.BI

variable {F : FTy → Type} [FloatOps F]

/-- What every device finds in its two operands: the rearranged indices and its block of the table. -/
structure Inputs (F : FTy → Type) where
  idx : Dev nD → Vec F S128x8 .i32
  tab : Dev nD → Vec F S4096x512 .f32

/-- The device's own number, as the kernel computes it. -/
abbrev myWord (c : Dev nD) : BitVec 32 := Scalar.remsi (Scalar.divsi (Dev.word c) 1#32) 8#32

theorem col_inb (t : Fin 8) : ∀ a, (![0, t.val] : Fin 2 → Nat) a + S128x1.size a ≤ S128x8.size a := by
  revert t; decide

/-- Column `t` of the rearranged indices. -/
def col (x : Vec F S128x8 .i32) (t : Fin 8) : Vec F S128x1 .i32 :=
  (Memref.whole cc0_stg0_0 : Memref sig .tc .vmem S128x8 .i32).view.readAt (Elt F)
    (Rect.unit (s := S128x8) ![0, t.val] S128x1.size (col_inb t)).toLoadRect x

/-- In which position device `s` serves block `k`. -/
def turn (s k : Dev nD) : Fin 8 := ⟨(k.val + 15 - s.val) % 8, Nat.mod_lt _ (by decide)⟩

theorem turn_around (s : Dev nD) (t : Fin 8) : turn s (around s t.val) = t := by
  revert s t; decide

/-- What device `s` contributes to block `k` of the result: for each of the block's rows, the row of its
    own part of the table the index names, or zeros. -/
def part (I : Inputs F) (s k : Dev nD) : Vec F S1x128x512 .bf16 :=
  k0_pay2 (myWord s) (I.tab s) (col (I.idx s) (turn s k))

/-- Block `k` of the result: the contributions of the eight devices, added in order. -/
def acc (I : Inputs F) (k : Dev nD) : Vec F S128x512 .f32 :=
  k0_pay15 (k0_pay13 (part I 0 k) (part I 1 k)) (k0_pay14 (part I 2 k)) (part I 3 k) (part I 4 k) (part I 5 k) (part I 6 k) (part I 7 k)

/-- The same block in the format in which it is sent to the other devices. -/
def accB (I : Inputs F) (k : Dev nD) : Vec F S1x128x512 .bf16 :=
  k0_pay16 (k0_pay13 (part I 0 k) (part I 1 k)) (k0_pay14 (part I 2 k)) (part I 3 k) (part I 4 k) (part I 5 k) (part I 6 k) (part I 7 k)

/-- Block `s` of what device `c` ends with: its own block as summed, another's as received. -/
def outBlock (I : Inputs F) (c s : Dev nD) : Vec F S128x512 .f32 :=
  if s = c then acc I c else k0_pay17 (accB I s)

/-- Which block a row of the result lies in. -/
def blockOf (i : S1024x512.Idx) : Dev nD := ⟨(i 0).val / 128, by have : (i 0).val < 1024 := (i 0).isLt; show _ < 8; omega⟩

/-- The place of a row of the result inside its block. -/
def inBlock (i : S1024x512.Idx) : S128x512.Idx := fun a => match a with
  | ⟨0, _⟩ => (⟨(i 0).val % 128, Nat.mod_lt _ (by decide)⟩ : Fin 128)
  | ⟨1, _⟩ => i 1

/-- The result device `c` ends with. -/
def outBuf (I : Inputs F) (c : Dev nD) : Vec F S1024x512 .f32 :=
  fun i => outBlock I c (blockOf i) (inBlock i)

/-- Going through the form of 128 rows and back changes nothing. -/
theorem pay12_eq (v : Vec F S1x128x512 .bf16) : k0_pay12 v = v := by
  unfold k0_pay12
  exact shapeCast_shapeCast _ _ _

section Pays

variable (w : BitVec 32) (T : Vec F S4096x512 .f32) (x : Vec F S128x1 .i32)

/-! The eight chunks are one computation, printed eight times. -/

theorem pay3_eq : k0_pay3 (Scalar.muli w 4096#32) (k0_pay1 T) (iota .tc S128x4096 32 [1] iota_S128x4096_d1_w32) x = k0_pay2 w T x := rfl

end Pays

end Cert.KernelIdeal.Own
-- ==== Proof.KernelIdeal.Protocol.lean ====
/-
  How the eight devices agree: for every semaphore of a device, who raises it, by how much, and what
  the raise hands to the device that waits on it.

  * The barrier semaphore of `c`: every other device `d` raises it by one, and hands over the slot of its
    receive buffer kept for `c`, ready to be written.
  * Send semaphores: raised by the device's own copies.
  * First receive semaphore `s` of `c`: the copy of device `s`'s contribution to block `c`; it hands over the slot
    written, and with it the slot of device `s` from which it was read.
  * Second receive semaphore `s` of `c`: the copy of block `s`, into the slot of `c` handed over before.
-/
module

public import proofs.«01_k».proof.Proof.KernelIdeal.Contents
public import Idealize.ShloMosaic.Lib.Pipeline.Launch
public import Idealize.ShloMosaic.Lib.Pipeline.RegionTalk
public import Idealize.ShloMosaic.Lib.ShareLeaves

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) 𝕄 := embL
abbrev ER : Emb UB 𝕄 := embR

/-! ## The cells -/

/-- What a semaphore is for: the barrier, or place `k` of array `j`, the arrays being the sends of the first
    exchange, its receives, the sends of the second exchange and its receives. -/
abbrev Role : Type := Option (Fin 4 × Fin 8)

abbrev dsem (j : Fin 4) (k : Fin 8) : DmaSem sig :=
  (⟨(3 + 8 * j.val) + k.val, by have := j.isLt; have := k.isLt; show _ < 35; omega⟩ : Fin 35)

/-- The semaphore of a role. -/
def semOf : Role → SemLoc sig
  | none => .reg barrier0
  | some (j, k) => .dma (dsem j k)

/-- The role of a semaphore. -/
def roleOf : SemLoc sig → Option Role
  | .reg _ => some none
  | .dma q => if 3 ≤ (q : Fin 35).val then
      some (some (⟨((q : Fin 35).val - 3) / 8, Nat.div_lt_of_lt_mul (Nat.lt_of_le_of_lt (Nat.sub_le_sub_right (Nat.le_of_lt_succ (q : Fin 35).isLt) 3) (by decide : 31 < 8 * 4))⟩, ⟨((q : Fin 35).val - 3) % 8, Nat.mod_lt _ (by decide)⟩))
    else none

theorem roleOf_semOf (x : Role) : roleOf (semOf x) = some x := by
  revert x; decide

theorem semOf_inj : Function.Injective semOf := fun x y h => by
  have := (roleOf_semOf x).symm.trans ((congrArg roleOf h).trans (roleOf_semOf y))
  exact Option.some.inj this

/-- The cell of device `c` for a role. -/
abbrev cell (c : Dev nD) (x : Role) : GSem nD τ sig := ((c : Thread nD τ), semOf x)

abbrev barC (c : Dev nD) : GSem nD τ sig := cell c none
abbrev s1C (c : Dev nD) (t : Fin 8) : GSem nD τ sig := cell c (some (0, t))
abbrev rsC (c s : Dev nD) : GSem nD τ sig := cell c (some (1, s))
abbrev s2C (c : Dev nD) (t : Fin 8) : GSem nD τ sig := cell c (some (2, t))
abbrev agC (c s : Dev nD) : GSem nD τ sig := cell c (some (3, s))

/-- What one copy of a slot adds to a semaphore. -/
abbrev N : ℕ := (rSlot ![0, 0, 0] (slot_inb 0)).view.dmaCredit
theorem N_pos : 0 < N := View.dmaCredit_pos _ (by decide)

/-! ## The payloads -/

variable (I : Inputs F)

/-- From device `d` to the barrier of `c`: the slot of `d` kept for `c`, and that both copies into `d` may come. -/
def barPay (c d : Dev nD) : sProp 𝕄 :=
  iprop((∃ f, rPts d c fullShare f) ∗ reached ER (rsC d c) 0 ∗ reached ER (agC d c) 0)
/-- The copy of `s`'s contribution to block `c` has landed. -/
def rsPay (c s : Dev nD) : sProp 𝕄 :=
  iprop(rPts c s fullShare (spread (part I s c)) ∗ pPts s c fullShare (spread (part I s c)))
/-- The share of the block sent that comes back when the copy to the `t`-th peer has been read. -/
def s2Pay (c : Dev nD) (t : Fin 8) : sProp 𝕄 := pPts c c (ShareLeaves.leaf 3 fullShare t) (spread (accB I c))
/-- The copy of block `s` has landed. -/
def agPay (c s : Dev nD) : sProp 𝕄 := pPts c s fullShare (spread (accB I s))

/-- The duties of a device's cell. -/
def dutyOf (c : Dev nD) : Option Role → Finset (Dev nD)
  | none => ∅
  | some none => Finset.univ.erase c
  | some (some (j, k)) => if j = 0 ∨ j = 2 then (if k = 7 then ∅ else {c}) else (if k = c then ∅ else {k})

/-- What a duty of a device's cell hands over. -/
def payOf (c : Dev nD) (x : Option Role) (d : Dev nD) : sProp 𝕄 :=
  match x with
  | none => iprop(emp)
  | some none => barPay c d
  | some (some (j, k)) => if j = 0 then iprop(emp) else if j = 1 then rsPay I c k else if j = 2 then s2Pay I c k else agPay I c k

/-- The whole agreement: one round on every cell. -/
def rd : Rounds.Schedule (GSem nD τ sig) (Dev nD) 𝕄 where
  duties g r := if r = 0 ∧ g.1.2 = .tc then dutyOf g.1.1 (roleOf g.2) else ∅
  unitless _ := False
  amount g _ _ := if roleOf g.2 = some none then 1 else N
  payload g _ d := payOf I g.1.1 (roleOf g.2) d
  amount_pos g _ _ _ := by
    by_cases h : roleOf g.2 = some none
    · rw [if_pos h]; exact Nat.one_pos
    · rw [if_neg h]; exact N_pos

instance rd_payload_storable (g : GSem nD τ sig) (r : ℕ) (d : Dev nD) :
    BI.Storable (upEmb : UEmb _ 𝕄) ((rd I).payload g r d) := by
  show BI.Storable upEmb (payOf I g.1.1 (roleOf g.2) d)
  unfold payOf barPay rsPay s2Pay agPay rPts pPts
  (repeat' split) <;> infer_instance

section Sched

variable (c : Dev nD)

theorem duties_cell (x : Role) : (rd I).duties (cell c x) 0 = dutyOf c (some x) := by
  dsimp only [rd]; rw [if_pos ⟨rfl, rfl⟩, roleOf_semOf]
theorem duties_later (g : GSem nD τ sig) : ∀ r, 1 ≤ r → (rd I).duties g r = ∅ :=
  fun r hr => by dsimp only [rd]; rw [if_neg (fun h => by omega)]
theorem payload_cell (x : Role) (r : ℕ) (d : Dev nD) : (rd I).payload (cell c x) r d = payOf I c (some x) d := by
  dsimp only [rd]; rw [roleOf_semOf]
theorem amount_bar (r : ℕ) (d : Dev nD) : (rd I).amount (barC c) r d = 1 := by
  dsimp only [rd]; rw [roleOf_semOf, if_pos rfl]
theorem amount_dma (x : Fin 4 × Fin 8) (r : ℕ) (d : Dev nD) : (rd I).amount (cell c (some x)) r d = N := by
  dsimp only [rd]; rw [roleOf_semOf, if_neg (by simp)]

theorem duties_bar : (rd I).duties (barC c) 0 = Finset.univ.erase c := duties_cell I c none
theorem duties_s1 {t : Fin 8} (h : t ≠ 7) : (rd I).duties (s1C c t) 0 = {c} := by
  rw [duties_cell]; dsimp only [dutyOf]; rw [if_pos (Or.inl rfl), if_neg h]
theorem duties_s2 {t : Fin 8} (h : t ≠ 7) : (rd I).duties (s2C c t) 0 = {c} := by
  rw [duties_cell]; dsimp only [dutyOf]; rw [if_pos (Or.inr rfl), if_neg h]
theorem duties_rs {s : Dev nD} (h : s ≠ c) : (rd I).duties (rsC c s) 0 = {s} := by
  rw [duties_cell]; dsimp only [dutyOf]; rw [if_neg (by decide), if_neg h]
theorem duties_ag {s : Dev nD} (h : s ≠ c) : (rd I).duties (agC c s) 0 = {s} := by
  rw [duties_cell]; dsimp only [dutyOf]; rw [if_neg (by decide), if_neg h]

/-- The cells no copy ever raises. -/
theorem duties_idle (x : Fin 4 × Fin 8) (h : dutyOf c (some (some x)) = ∅) : ∀ r, 0 ≤ r → (rd I).duties (cell c (some x)) r = ∅ := by
  intro r _
  rcases Nat.eq_zero_or_pos r with rfl | hr
  · rw [duties_cell, h]
  · exact duties_later I _ r hr

theorem expect_bar : (rd I).expect (barC c) 0 = 7 := by
  unfold Schedule.expect Schedule.amountOf
  rw [duties_bar, Finset.sum_congr rfl fun d _ => amount_bar I c 0 d, Finset.sum_const, Finset.card_erase_of_mem (Finset.mem_univ _)]
  rfl
theorem expect_of_single (x : Fin 4 × Fin 8) (d : Dev nD) (h : (rd I).duties (cell c (some x)) 0 = {d}) :
    (rd I).expect (cell c (some x)) 0 = N := by
  unfold Schedule.expect Schedule.amountOf; rw [h, Finset.sum_singleton, amount_dma]

theorem rest_bar : bigSep ((rd I).duties (barC c) 0 \ ∅) (fun d => (rd I).payload (barC c) 0 d)
    = bigSep (Finset.univ.erase c) fun d => (barPay c d : sProp 𝕄) := by
  rw [Finset.sdiff_empty, duties_bar]
  exact bigSep_congr fun d _ => payload_cell I c none 0 d
theorem rest_of_single (x : Fin 4 × Fin 8) (d : Dev nD) (h : (rd I).duties (cell c (some x)) 0 = {d}) :
    bigSep ((rd I).duties (cell c (some x)) 0 \ ∅) (fun d => (rd I).payload (cell c (some x)) 0 d) = payOf I c (some (some x)) d := by
  rw [Finset.sdiff_empty, h, bigSep_singleton, payload_cell]

end Sched

/-! ## The order of waits -/

def L (g : GSem nD τ sig) : Finset Unit := if g.1.2 = .tc then {()} else ∅
/-- The barrier comes first, then the first receives, then the second. -/
def lv (g : GSem nD τ sig) (_ : Unit) : ℕ :=
  match roleOf g.2 with
  | some none => 1
  | some (some (j, _)) => if j = 1 then 2 else if j = 3 then 3 else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (x : Role) (u : Unit) : lv (cell c x) u
    = match x with
      | none => 1
      | some (j, _) => if j = 1 then 2 else if j = 3 then 3 else 0 := by
  dsimp only [lv]; rw [roleOf_semOf]
  cases x <;> rfl

abbrev 𝒱₀ : Variants := Variants.none

end Cert.KernelIdeal.Own
-- ==== Proof.KernelIdeal.Families.lean ====
/-
  Resources and debts held in a row and used one after another; and which debts a wait may leave open.
-/
module

public import proofs.«01_k».proof.Proof.KernelIdeal.Protocol

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rows -/

/-- The places from `n` on. -/
abbrev fromN (m n : ℕ) : Finset (Fin m) := Finset.univ.filter fun t => n ≤ t.val
/-- The places before `n`. -/
abbrev below (m n : ℕ) : Finset (Fin m) := Finset.univ.filter fun t => t.val < n

theorem fromN_eq {m n : ℕ} (h : n < m) : fromN m n = insert ⟨n, h⟩ (fromN m (n + 1)) := by
  ext t
  simp only [Finset.mem_filter, Finset.mem_univ, true_and, Finset.mem_insert, Fin.ext_iff]
  omega
theorem fromN_notMem {m n : ℕ} (h : n < m) : (⟨n, h⟩ : Fin m) ∉ fromN m (n + 1) := by
  simp
theorem below_succ {m n : ℕ} (h : n < m) : below m (n + 1) = insert ⟨n, h⟩ (below m n) := by
  ext t
  simp only [Finset.mem_filter, Finset.mem_univ, true_and, Finset.mem_insert, Fin.ext_iff]
  omega
theorem below_notMem {m n : ℕ} (h : n < m) : (⟨n, h⟩ : Fin m) ∉ below m n := by
  simp
theorem fromN_zero (m : ℕ) : fromN m 0 = Finset.univ := by ext; simp
theorem fromN_full (m : ℕ) : fromN m m = ∅ := by
  ext t; have := t.isLt; simp
theorem below_zero (m : ℕ) : below m 0 = ∅ := by ext; simp
theorem below_full (m : ℕ) : below m m = Finset.univ := by
  ext t; have := t.isLt; simp

/-- What is still to be used, from place `n` on. -/
def rest {m : ℕ} (n : ℕ) (Φ : Fin m → sProp 𝕄) : sProp 𝕄 := bigSep (fromN m n) Φ
/-- What has been obtained at the places before `n`. -/
def done {m : ℕ} (n : ℕ) (Φ : Fin m → sProp 𝕄) : sProp 𝕄 := bigSep (below m n) Φ

theorem rest_pop {m : ℕ} (Φ : Fin m → sProp 𝕄) {n : ℕ} (h : n < m) : rest n Φ = iprop(Φ ⟨n, h⟩ ∗ rest (n + 1) Φ) := by
  unfold rest; rw [fromN_eq h, bigSep_insert (fromN_notMem h)]; rfl
theorem done_push {m : ℕ} (Φ : Fin m → sProp 𝕄) {n : ℕ} (h : n < m) : done (n + 1) Φ = iprop(Φ ⟨n, h⟩ ∗ done n Φ) := by
  unfold done; rw [below_succ h, bigSep_insert (below_notMem h)]; rfl
theorem rest_zero {m : ℕ} (Φ : Fin m → sProp 𝕄) : rest 0 Φ = bigSep Finset.univ Φ := by unfold rest; rw [fromN_zero]
theorem rest_full {m : ℕ} (Φ : Fin m → sProp 𝕄) : rest m Φ = (iprop(emp) : sProp 𝕄) := by unfold rest; rw [fromN_full, bigSep_empty]; rfl
theorem done_zero {m : ℕ} (Φ : Fin m → sProp 𝕄) : done 0 Φ = (iprop(emp) : sProp 𝕄) := by unfold done; rw [below_zero, bigSep_empty]; rfl
theorem done_full {m : ℕ} (Φ : Fin m → sProp 𝕄) : done m Φ = bigSep Finset.univ Φ := by unfold done; rw [below_full]

/-! ## Debts -/

/-- The debts of a row from place `n` on. -/
def debt (f : Fin 7 → CellTallies nD τ sig Unit) (n : ℕ) : CellTallies nD τ sig Unit := ∑ t ∈ fromN 7 n, f t

theorem debt_pop (f : Fin 7 → CellTallies nD τ sig Unit) {n : ℕ} (h : n < 7) : debt f n = debt f (n + 1) + f ⟨n, h⟩ := by
  unfold debt; rw [fromN_eq h, Finset.sum_insert (fromN_notMem h), add_comm]
theorem debt_pop_right (X : CellTallies nD τ sig Unit) (f : Fin 7 → CellTallies nD τ sig Unit) {n : ℕ} (h : n < 7) :
    X + debt f n = X + debt f (n + 1) + f ⟨n, h⟩ := by rw [debt_pop f h, add_assoc]
theorem debt_pop_left (X : CellTallies nD τ sig Unit) (f : Fin 7 → CellTallies nD τ sig Unit) {n : ℕ} (h : n < 7) :
    debt f n + X = debt f (n + 1) + X + f ⟨n, h⟩ := by rw [debt_pop f h, add_right_comm]
theorem debt_full (f : Fin 7 → CellTallies nD τ sig Unit) : debt f 7 = 0 := by
  unfold debt; rw [fromN_full, Finset.sum_empty]

/-- What `c` owes its peers' barriers, their first receives and their second receives, from the `n`-th peer on. -/
def oBar (c : Dev nD) : ℕ → CellTallies nD τ sig Unit := debt fun t => tallyAt (barC (around c t.val)) () 1
def oRs (c : Dev nD) : ℕ → CellTallies nD τ sig Unit := debt fun t => tallyAt (rsC (around c t.val) c) () N
def oAg (c : Dev nD) : ℕ → CellTallies nD τ sig Unit := debt fun t => tallyAt (agC (around c t.val) c) () N

/-- What `c` owes at launch. -/
def O₀ (c : Dev nD) : CellTallies nD τ sig Unit := oRs c 0 + oAg c 0 + oBar c 0

/-- All debts lie on cells of level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rcases Nat.eq_zero_or_pos (O g u) with h0 | h0
  · refine h' g u ?_
    have : (O + O') g u = O g u + O' g u := rfl
    omega
  · exact h g u h0
theorem above_tally {n : ℕ} (c : Dev nD) (x : Role) (k : ℕ) (h : n < lv (cell c x) ()) : Above n (tallyAt (cell c x) () k) := fun g u hg => by
  rw [tallyAt_apply] at hg
  by_cases e : g = cell c x ∧ u = ()
  · rw [e.1]; exact ⟨rfl, h⟩
  · rw [if_neg e] at hg; exact absurd hg (Nat.lt_irrefl 0)
theorem above_debt {n k : ℕ} (f : Fin 7 → CellTallies nD τ sig Unit) (h : ∀ t, Above n (f t)) : Above n (debt f k) :=
  Finset.sum_induction _ (Above n) (fun _ _ => above_add) (above_zero n) fun t _ => h t

theorem above_bar (c : Dev nD) (k : ℕ) : Above 0 (oBar c k) := above_debt _ fun t => above_tally _ _ _ (by rw [lv_cell]; decide)
theorem above_rs (c : Dev nD) (k : ℕ) : Above 1 (oRs c k) := above_debt _ fun t => above_tally _ _ _ (by rw [lv_cell]; exact (by decide : 1 < 2))
theorem above_ag (c : Dev nD) (k : ℕ) : Above 2 (oAg c k) := above_debt _ fun t => above_tally _ _ _ (by rw [lv_cell]; exact (by decide : 2 < 3))
theorem above_mono {n n' : ℕ} {O : CellTallies nD τ sig Unit} (h : Above n O) (hn : n' ≤ n) : Above n' O :=
  fun g u hg => ⟨(h g u hg).1, Nat.lt_of_le_of_lt hn (h g u hg).2⟩

/-- A wait may leave open the debts that lie above it. -/
theorem mayWait (c : Dev nD) (x : Role) (n : ℕ) (O : CellTallies nD τ sig Unit) (hx : lv (cell c x) () ≤ n) (hO : Above n O) :
    (levAts L lv : sProp 𝕄) ⊢ MayWait (c : Thread nD τ) (semOf x) () O :=
  MayOwe.of_cut (L := L) (lev := lv) n (fun p hp => by rw [Finset.mem_singleton.mp hp, L_tc]; exact Finset.mem_singleton_self _)
    (fun g u hg => by
      obtain ⟨h, -⟩ := hO g u hg
      unfold L; rw [if_pos h]; exact Finset.mem_singleton_self _)
    (fun p hp => by rw [Finset.mem_singleton.mp hp]; exact hx)
    (fun g u hg => (hO g u hg).2)

end Cert.KernelIdeal.Own
-- ==== Proof.KernelIdeal.Steps.lean ====
/-
  The rules of the agreement, one for each kind of operation of the kernel: what the device holds before
  it and after it.
-/
module

public import proofs.«01_k».proof.Proof.KernelIdeal.Families

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

/-! ## What every step may use again -/

/-- The names of all cells, that every barrier and the device's own cells are at their round, and the levels. -/
def pers (c : Dev nD) : sProp 𝕄 :=
  iprop(bigSep Finset.univ (fun y : Dev nD × Role => cellInv ER (rd I) (K (cell y.1 y.2)) (cell y.1 y.2))
    ∗ bigSep Finset.univ (fun p : Dev nD => reached ER (barC p) 0)
    ∗ bigSep Finset.univ (fun x : Fin 4 × Fin 8 => reached ER (cell c (some x)) 0)
    ∗ levAts L lv)

instance pers_persistent (c : Dev nD) : BI.Persistent (pers I K c) := by unfold pers; infer_instance

theorem pers_inv (c p : Dev nD) (x : Role) : pers I K c ⊢ cellInv ER (rd I) (K (cell p x)) (cell p x) := by
  unfold pers
  iintro ⟨#H, -⟩
  iapply (show bigSep Finset.univ (fun y : Dev nD × Role => cellInv ER (rd I) (K (cell y.1 y.2)) (cell y.1 y.2)) ⊢ _ from bigSep_elim (Finset.mem_univ (p, x))) $$ H
theorem pers_bar (c p : Dev nD) : pers I K c ⊢ reached ER (barC p) 0 := by
  unfold pers
  iintro ⟨-, #H, -⟩
  iapply (show bigSep Finset.univ (fun p : Dev nD => (reached ER (barC p) 0 : sProp 𝕄)) ⊢ _ from bigSep_elim (Finset.mem_univ p)) $$ H
theorem pers_own (c : Dev nD) (x : Fin 4 × Fin 8) : pers I K c ⊢ reached ER (cell c (some x)) 0 := by
  unfold pers
  iintro ⟨-, -, #H, -⟩
  iapply (show bigSep Finset.univ (fun x : Fin 4 × Fin 8 => (reached ER (cell c (some x)) 0 : sProp 𝕄)) ⊢ _ from bigSep_elim (Finset.mem_univ x)) $$ H
theorem pers_lev (c : Dev nD) : pers I K c ⊢ levAts L lv := by
  unfold pers
  iintro ⟨-, -, -, #H⟩
  iexact H

/-- What a device owes, its recorded waits left open. -/
def ow (c : Dev nD) (O : CellTallies nD τ sig Unit) : sProp 𝕄 := iprop(∃ W, owes (c : Thread nD τ) O W)

/-- A cell that has had all its rounds, at the position its owner left it in. -/
def spent (c : Dev nD) (x : Role) : sProp 𝕄 := iprop(∃ R, ⌜∀ r, R ≤ r → (rd I).duties (cell c x) r = ∅⌝ ∗ atPos ER (cell c x) R ∅ 0)

theorem spent_one (c : Dev nD) (x : Role) : atPos ER (cell c x) (0 + 1) ∅ 0 ⊢ spent I c x := by
  unfold spent
  iintro H
  iexists 1
  isplitr; · ipureintro; exact duties_later I _
  iexact H

theorem spent_idle (c : Dev nD) (x : Fin 4 × Fin 8) (h : dutyOf c (some (some x)) = ∅) : atPos ER (cell c (some x)) 0 ∅ 0 ⊢ spent I c (some x) := by
  unfold spent
  iintro H
  iexists 0
  isplitr; · ipureintro; exact duties_idle I c x h
  iexact H

/-- A spent cell is closed, and its counter at zero is the device's again. -/
theorem spent_close (c : Dev nD) (x : Role) : iprop(pers I K c ∗ spent I c x) ⊢ (|={Set.univ}=> semVal (cell c x) 0 : sProp 𝕄) := by
  unfold spent
  iintro ⟨#Hp, ⟨%R, %hR, H⟩⟩
  iapply (Rounds.cell_close ER (rd I) (Set.mem_univ (K (cell c x))) (fun h => h) (R := R) hR)
  isplitr; · iapply (pers_inv I K c c x); iexact Hp
  iexact H

section Steps

variable (c : Dev nD)

/-- The run of the rest of a program on device `c`. -/
abbrev run {α : Type} (p : Prog (TpuEff nD τ sig (Elt F) Λ₀ .tc) α) (Kt : α → sProp 𝕄) : sProp 𝕄 :=
  wp frame (wpE (defs₀ (F := F)) 𝒱₀ (c : Thread nD τ) none) Set.univ p Kt

/-! ## The barrier -/

/-- Before the `n`-th signal. -/
def sigSt (n : ℕ) : sProp 𝕄 :=
  iprop(ow c (oRs c 0 + oAg c 0 + oBar c n)
    ∗ rest n (fun t : Fin 7 => dutyTok ER (barC (around c t.val)) 0 c)
    ∗ rest n (fun t : Fin 7 => iprop(∃ f, rPts c (around c t.val) fullShare f)))

theorem signal_step {α : Type} {Kt : α → sProp 𝕄} (n : ℕ) (hn : n < 7) {dst : Thread nD τ} (hdst : dst = (around c n : Thread nD τ)) {sem : Sem sig} (hsem : sem = barrier0)
    {k' : ℕ} (hk' : k' = 1) {k : PUnit → Prog (TpuEff nD τ sig (Elt F) Λ₀ .tc) α} :
    iprop(pers I K c ∗ sigSt c n)
      ⊢ iprop((sigSt c (n + 1) -∗ run c (k ⟨⟩) Kt) -∗ run c (.op (.semSignal dst sem k') k) Kt) := by
  subst hdst hsem hk'
  have hmem : c ∈ (rd I).duties (barC (around c n)) 0 := by
    rw [duties_bar]; exact Finset.mem_erase.mpr ⟨(around_ne c hn).symm, Finset.mem_univ _⟩
  have hO : oRs c 0 + oAg c 0 + oBar c n = oRs c 0 + oAg c 0 + oBar c (n + 1) + tallyAt (barC (around c n)) () 1 := debt_pop_right _ _ hn
  unfold sigSt ow
  rw [rest_pop _ hn, rest_pop _ hn]
  iintro ⟨#Hp, ⟨%W, HO⟩, ⟨Htok, Htoks⟩, ⟨Hpay, Hpays⟩⟩ Hk
  iapply (Rounds.wp_signal 𝒱₀ ER (rd I) (c : Thread nD τ) none (dst := (around c n : Thread nD τ)) (sem := barrier0) (r := 0) (d := c)
      (κ := K (barC (around c n)))
      hmem
      (amount_bar I (around c n) 0 c) () (oRs c 0 + oAg c 0 + oBar c (n + 1))
      hO) $$ [HO Htok Hpay]
  · isplitr; · iapply (pers_inv I K c (around c n) none); iexact Hp
    isplitl [HO]; · iexact HO
    isplitl [Htok]; · iexact Htok
    isplitl [Hpay]
    · rw [show (rd I).payload ((around c n : Thread nD τ), SemLoc.reg barrier0) 0 c = barPay (around c n) c from payload_cell I (around c n) none 0 c]
      unfold barPay
      isplitl [Hpay]; · iexact Hpay
      isplitr
      · iapply (pers_own I K c (1, around c n)); iexact Hp
      · iapply (pers_own I K c (3, around c n)); iexact Hp
    · iapply (pers_bar I K c (around c n)); iexact Hp
  iintro HO
  iapply Hk
  isplitl [HO]; · iexists W; iexact HO
  isplitl [Htoks] <;> iassumption

/-- What the barrier brings, from the `t`-th peer. -/
theorem bar_step {α : Type} {Kt : α → sProp 𝕄} {sem : Sem sig} (hsem : sem = barrier0) {k' : ℕ} (hk' : k' = 7) {k : PUnit → Prog (TpuEff nD τ sig (Elt F) Λ₀ .tc) α} :
    iprop(pers I K c ∗ sigSt c 7 ∗ atPos ER (barC c) 0 ∅ 0 ∗ cred (tallyAt (barC c) () 7))
      ⊢ iprop(((ow c (oRs c 0 + oAg c 0) ∗ spent I c none ∗ bigSep Finset.univ (fun t : Fin 7 => barPay c (around c t.val))) -∗ run c (k ⟨⟩) Kt)
          -∗ run c (.op (.semWait sem k') k) Kt) := by
  subst hsem hk'
  unfold sigSt
  iintro ⟨#Hp, ⟨HO, -⟩, Hat, Hc⟩ Hk
  unfold ow
  icases HO with ⟨%W, HO⟩
  rw [show oRs c 0 + oAg c 0 + oBar c 7 = oRs c 0 + oAg c 0 from by unfold oBar; rw [debt_full, add_zero]]
  iapply (Rounds.wp_wait_rest_token 𝒱₀ ER (rd I) (c : Thread nD τ) none (κ := K (barC c))
      (wpE_semWait_eq 𝒱₀ (c : Thread nD τ) none Set.univ) (Set.mem_univ _) () (O := oRs c 0 + oAg c 0) (W := W) (R := 0) (m := 0) (T := ∅)
      ((Nat.zero_add 7).trans (expect_bar I c).symm)) $$ [Hc HO Hat]
  · isplitr; · iapply (pers_inv I K c c none); iexact Hp
    isplitl [Hc]; · iexact Hc
    isplitl [HO]; · iexact HO
    isplitr
    · iapply (mayWait c none 1 (oRs c 0 + oAg c 0) (by rw [lv_cell]) (above_add (above_rs c 0) (above_mono (above_ag c 0) (by decide))))
      iapply (pers_lev I K c); iexact Hp
    iexact Hat
  have hrest : bigSep ((rd I).duties (barC c) 0 \ ∅) (fun d => (rd I).payload (barC c) 0 d)
      = bigSep Finset.univ (fun t : Fin 7 => barPay (F := F) c (around c t.val)) :=
    (rest_bar I c).trans (by rw [← map_peerEmb, bigSep_map]; rfl)
  rw [show (((c : Thread nD τ), SemLoc.reg barrier0) : GSem nD τ sig) = barC c from rfl, hrest]
  iintro ⟨HO, Hat, -, Hpay⟩
  iapply Hk
  isplitl [HO]; · iexists _; iexact HO
  isplitl [Hat]; · iapply (spent_one I c none); iexact Hat
  iexact Hpay

/-! ## Waiting for one copy -/

/-- A wait on one of the device's cells with a single duty: the device gets what the duty hands over. -/
theorem dma_wait {α : Type} {Kt : α → sProp 𝕄} (x : Fin 4 × Fin 8) (d : Dev nD) (hd : (rd I).duties (cell c (some x)) 0 = {d})
    (O : CellTallies nD τ sig Unit) (n : ℕ) (hx : lv (cell c (some x)) () ≤ n) (hO : Above n O)
    {sem : DmaSem sig} (hsem : sem = dsem x.1 x.2) {s s' : Shape} {e e' : EltTy} {sp sp' : Space}
    {src : Memref sig .tc sp' s' e'} {dst : Memref sig .tc sp s e} (hN : dst.view.dmaCredit = N)
    {hsrc : src.view.WordExact} {hdst : dst.view.WordExact}
    {k : PUnit → Prog (TpuEff nD τ sig (Elt F) Λ₀ .tc) α} :
    iprop(pers I K c ∗ ow c O ∗ atPos ER (cell c (some x)) 0 ∅ 0 ∗ cred (tallyAt (cell c (some x)) () N))
      ⊢ iprop(((ow c O ∗ spent I c (some x) ∗ payOf I c (some (some x)) d) -∗ run c (k ⟨⟩) Kt)
          -∗ run c (.op (.waitDma2 sem src dst hsrc hdst) k) Kt) := by
  subst hsem
  unfold ow
  iintro ⟨#Hp, ⟨%W, HO⟩, Hat, Hc⟩ Hk
  iapply (Rounds.wp_wait_rest_token 𝒱₀ ER (rd I) (c : Thread nD τ) none (κ := K (cell c (some x)))
      (wpE_waitDma2_eq 𝒱₀ (c : Thread nD τ) none Set.univ) (Set.mem_univ _) () (O := O) (W := W) (R := 0) (m := 0) (T := ∅)
      ((Nat.zero_add _).trans (hN.trans (expect_of_single I c x d hd).symm))) $$ [Hc HO Hat]
  · isplitr; · iapply (pers_inv I K c c (some x)); iexact Hp
    rw [hN]
    isplitl [Hc]; · iexact Hc
    isplitl [HO]; · iexact HO
    isplitr
    · iapply (mayWait c (some x) n O hx hO)
      iapply (pers_lev I K c); iexact Hp
    iexact Hat
  rw [show (((c : Thread nD τ), SemLoc.dma (dsem x.1 x.2)) : GSem nD τ sig) = cell c (some x) from rfl, rest_of_single I c x d hd]
  iintro ⟨HO, Hat, -, Hpay⟩
  iapply Hk
  isplitl [HO]; · iexists _; iexact HO
  isplitl [Hat]; · iapply (spent_one I c (some x)); iexact Hat
  iexact Hpay

/-! ## Sending -/

/-- What it takes to send the `t`-th chunk of the first exchange. -/
def chunkTok (t : Fin 7) : sProp 𝕄 :=
  iprop(dutyTok ER (rsC (around c t.val) c) 0 c ∗ dutyTok ER (s1C c t.castSucc) 0 c ∗ barPay c (around c t.val))
/-- What is left of it after the send. -/
def chunkDone (t : Fin 7) : sProp 𝕄 :=
  iprop(cred (tallyAt (s1C c t.castSucc) () N) ∗ reached ER (agC (around c t.val) c) 0)

/-- Before the `n`-th chunk is sent. -/
def sendSt (n : ℕ) : sProp 𝕄 :=
  iprop(ow c (oRs c n + oAg c 0) ∗ rest n (chunkTok (F := F) c) ∗ done n (chunkDone (F := F) c))

theorem castSucc_ne (t : Fin 7) : t.castSucc ≠ (7 : Fin 8) := by revert t; decide

theorem amount_r {o : Fin 3 → ℕ} {h : ∀ a, o a + S1x128x512.size a ≤ S8x128x512.size a} (q : DmaSem sig) : (rSlot o h).view.amount (.dma q) = N := rfl
theorem amount_p {o : Fin 3 → ℕ} {h : ∀ a, o a + S1x128x512.size a ≤ S8x128x512.size a} (q : DmaSem sig) : (pSlot o h).view.amount (.dma q) = N := rfl

theorem send1_step {α : Type} {Kt : α → sProp 𝕄} (n : ℕ) (hn : n < 7) {p : Dev nD} (hp : p = around c n)
    {o1 o2 : Fin 3 → ℕ} {h1 : ∀ a, o1 a + S1x128x512.size a ≤ S8x128x512.size a} {h2 : ∀ a, o2 a + S1x128x512.size a ≤ S8x128x512.size a}
    (e1 : o1 = ![(around c n).val, 0, 0]) (e2 : o2 = ![c.val, 0, 0])
    {sS sD : DmaSem sig} (hS : sS = dsem 0 (Fin.castSucc ⟨n, hn⟩)) (hD : sD = dsem 1 c)
    {hsc : (rSlot o2 h2).view.ref.isScScratch = false} {hsrc : (pSlot o1 h1).view.WordExact} {hdst : (rSlot o2 h2).view.WordExact}
    {hsem : DmaTarget.Typed .vmem (.dma sD) (.remote (Dev.tc p : Thread nD τ) (rSlot o2 h2) (.dma sS) hsc)}
    {k : PUnit → Prog (TpuEff nD τ sig (Elt F) Λ₀ .tc) α} :
    iprop(pers I K c ∗ sendSt c n ∗ pPts c (around c n) fullShare (spread (part I c (around c n))))
      ⊢ iprop((sendSt c (n + 1) -∗ run c (k ⟨⟩) Kt)
          -∗ run c (.op (.enqueueDma (pSlot o1 h1) (.remote (Dev.tc p : Thread nD τ) (rSlot o2 h2) (.dma sS) hsc) (.dma sD) hsrc hdst hsem) k) Kt) := by
  subst hp e1 e2 hS hD
  have hO : oRs c n + oAg c 0 = oRs c (n + 1) + oAg c 0 + tallyAt (rsC (around c n) c) () N := debt_pop_left _ _ hn
  have hd1 : c ∈ (rd I).duties (s1C c (Fin.castSucc ⟨n, hn⟩)) 0 := by rw [duties_s1 I c (castSucc_ne _)]; exact Finset.mem_singleton_self _
  have hd2 : c ∈ (rd I).duties (rsC (around c n) c) 0 := by rw [duties_rs I (around c n) (around_ne c hn).symm]; exact Finset.mem_singleton_self _
  have hpay1 : (iprop(emp) : sProp 𝕄) ⊢ (rd I).payload (s1C c (Fin.castSucc ⟨n, hn⟩)) 0 c := by
    rw [payload_cell]; exact Entails.rfl
  unfold sendSt ow
  rw [rest_pop _ hn, done_push _ hn]
  iintro ⟨#Hp, ⟨⟨%W, HO⟩, ⟨Ht, Hts⟩, Hdn⟩, Hsrc⟩ Hk
  unfold chunkTok barPay
  icases Ht with ⟨Ht2, Ht1, ⟨⟨%fd, Hdst⟩, #Hr2, #Hr3⟩⟩
  have hpay2 : iprop(((rSlot ![c.val, 0, 0] (slot_inb c)).view.loc (around c n : Thread nD τ) ↦[(rSlot ![c.val, 0, 0] (slot_inb c)).view.set]{fullShare}
        ((rSlot ![c.val, 0, 0] (slot_inb c)).view.write (Elt F) fd ((pSlot ![(around c n).val, 0, 0] (slot_inb (around c n))).view.read (Elt F) (spread (part I c (around c n)))) Finset.univ))
      ∗ ((pSlot ![(around c n).val, 0, 0] (slot_inb (around c n))).view.loc (c : Thread nD τ) ↦[(pSlot ![(around c n).val, 0, 0] (slot_inb (around c n))).view.set]{fullShare} spread (part I c (around c n))))
      ⊢ ((rd I).payload (rsC (around c n) c) 0 c : sProp 𝕄) := by
    rw [payload_cell]
    show _ ⊢ rsPay I (around c n) c
    unfold rsPay rPts pPts
    rw [rSlot_set, pSlot_set]
    exact sep_mono_left (Entails.of_eq (pointsTo_congr (pr_copy (around c n) c fd _)))
  have X := Rounds.wp_send_landing_pointsTo (defs := defs₀ (F := F)) (Γ := []) (Q := Kt) (k := k) 𝒱₀ ER (rd I) (c : Thread nD τ) none (c' := (around c n : Thread nD τ)) (q := fullShare)
      (src := pSlot ![(around c n).val, 0, 0] (slot_inb (around c n))) (dst := rSlot ![c.val, 0, 0] (slot_inb c)) (hsc := hsc)
      (sS := .dma (dsem 0 (Fin.castSucc ⟨n, hn⟩))) (sem := .dma (dsem 1 c)) (hsrc := hsrc) (hdst := hdst) (hsem := hsem)
      (fs := spread (part I c (around c n))) (fd := fd) (r₁ := 0) (r₂ := 0) (d₁ := c) (d₂ := c)
      (κ₁ := K (s1C c (Fin.castSucc ⟨n, hn⟩))) (κ₂ := K (rsC (around c n) c)) hd1 hd2 () () N (amount_r _)
      (amount_dma I c (0, Fin.castSucc ⟨n, hn⟩) 0 c) (amount_dma I (around c n) (1, c) 0 c) (oRs c (n + 1) + oAg c 0) hO (W := W) hpay1 hpay2 (Es := Set.univ)
  iapply X $$ [Hsrc Hdst HO Ht1 Ht2]
  · isplitr; · iapply (pers_inv I K c c _); iexact Hp
    isplitr; · iapply (pers_inv I K c (around c n) _); iexact Hp
    isplitl [Hsrc]; · unfold pPts; rw [pSlot_set]; iexact Hsrc
    isplitl [Hdst]; · unfold rPts; rw [rSlot_set]; iexact Hdst
    isplitl [HO]; · iexact HO
    isplitl [Ht1]; · iexact Ht1
    isplitr; · iapply (pers_own I K c (0, Fin.castSucc ⟨n, hn⟩)); iexact Hp
    isplitl [Ht2]; · iexact Ht2
    iexact Hr2
  iintro ⟨Hc, HO⟩
  iapply Hk
  isplitl [HO]; · iexists W; iexact HO
  isplitl [Hts]; · iexact Hts
  isplitr [Hdn]
  · unfold chunkDone
    isplitl [Hc]; · iexact Hc
    iexact Hr3
  iexact Hdn

/-- What it takes to send the finished block to the `t`-th peer. -/
def blockTok (t : Fin 7) : sProp 𝕄 :=
  iprop(dutyTok ER (agC (around c t.val) c) 0 c ∗ dutyTok ER (s2C c t.castSucc) 0 c ∗ reached ER (agC (around c t.val) c) 0
    ∗ pPts (around c t.val) c fullShare (spread (part I (around c t.val) c))
    ∗ pPts c c (ShareLeaves.leaf 3 fullShare t.castSucc) (spread (accB I c)))

/-- Before the finished block is sent to the `n`-th peer. -/
def sendSt2 (n : ℕ) : sProp 𝕄 :=
  iprop(ow c (oAg c n) ∗ rest n (blockTok I c) ∗ done n (fun t : Fin 7 => cred (tallyAt (s2C c t.castSucc) () N)))

theorem send2_step {α : Type} {Kt : α → sProp 𝕄} (n : ℕ) (hn : n < 7) {p : Dev nD} (hp : p = around c n)
    {o1 o2 : Fin 3 → ℕ} {h1 : ∀ a, o1 a + S1x128x512.size a ≤ S8x128x512.size a} {h2 : ∀ a, o2 a + S1x128x512.size a ≤ S8x128x512.size a}
    (e1 : o1 = ![c.val, 0, 0]) (e2 : o2 = ![c.val, 0, 0])
    {sS sD : DmaSem sig} (hS : sS = dsem 2 (Fin.castSucc ⟨n, hn⟩)) (hD : sD = dsem 3 c)
    {hsc : (pSlot o2 h2).view.ref.isScScratch = false} {hsrc : (pSlot o1 h1).view.WordExact} {hdst : (pSlot o2 h2).view.WordExact}
    {hsem : DmaTarget.Typed .vmem (.dma sD) (.remote (Dev.tc p : Thread nD τ) (pSlot o2 h2) (.dma sS) hsc)}
    {k : PUnit → Prog (TpuEff nD τ sig (Elt F) Λ₀ .tc) α} :
    iprop(pers I K c ∗ sendSt2 I c n)
      ⊢ iprop((sendSt2 I c (n + 1) -∗ run c (k ⟨⟩) Kt)
          -∗ run c (.op (.enqueueDma (pSlot o1 h1) (.remote (Dev.tc p : Thread nD τ) (pSlot o2 h2) (.dma sS) hsc) (.dma sD) hsrc hdst hsem) k) Kt) := by
  subst hp e1 e2 hS hD
  have hO : oAg c n = oAg c (n + 1) + tallyAt (agC (around c n) c) () N := debt_pop _ hn
  have hd1 : c ∈ (rd I).duties (s2C c (Fin.castSucc ⟨n, hn⟩)) 0 := by rw [duties_s2 I c (castSucc_ne _)]; exact Finset.mem_singleton_self _
  have hd2 : c ∈ (rd I).duties (agC (around c n) c) 0 := by rw [duties_ag I (around c n) (around_ne c hn).symm]; exact Finset.mem_singleton_self _
  have hpay1 : ((pSlot ![c.val, 0, 0] (slot_inb c)).view.loc (c : Thread nD τ) ↦[(pSlot ![c.val, 0, 0] (slot_inb c)).view.set]{ShareLeaves.leaf 3 fullShare (Fin.castSucc ⟨n, hn⟩)} spread (accB I c))
      ⊢ ((rd I).payload (s2C c (Fin.castSucc ⟨n, hn⟩)) 0 c : sProp 𝕄) := by
    rw [payload_cell]
    show _ ⊢ s2Pay I c (Fin.castSucc ⟨n, hn⟩)
    unfold s2Pay pPts
    rw [pSlot_set]
  have hpay2 : ((pSlot ![c.val, 0, 0] (slot_inb c)).view.loc (around c n : Thread nD τ) ↦[(pSlot ![c.val, 0, 0] (slot_inb c)).view.set]{fullShare}
        ((pSlot ![c.val, 0, 0] (slot_inb c)).view.write (Elt F) (spread (part I (around c n) c)) ((pSlot ![c.val, 0, 0] (slot_inb c)).view.read (Elt F) (spread (accB I c))) Finset.univ))
      ⊢ ((rd I).payload (agC (around c n) c) 0 c : sProp 𝕄) := by
    rw [payload_cell]
    show _ ⊢ agPay I (around c n) c
    unfold agPay pPts
    rw [pSlot_set]
    exact Entails.of_eq (pointsTo_congr (pp_copy c c _ _))
  unfold sendSt2 ow
  rw [rest_pop _ hn, done_push _ hn]
  iintro ⟨#Hp, ⟨⟨%W, HO⟩, ⟨Ht, Hts⟩, Hdn⟩⟩ Hk
  unfold blockTok
  icases Ht with ⟨Ht2, Ht1, #Hr2, Hdst, Hsrc⟩
  have X := Rounds.wp_send_pointsTo (defs := defs₀ (F := F)) (Γ := []) (Q := Kt) (k := k) 𝒱₀ ER (rd I) (c : Thread nD τ) none (c' := (around c n : Thread nD τ)) (q := ShareLeaves.leaf 3 fullShare (Fin.castSucc ⟨n, hn⟩))
      (src := pSlot ![c.val, 0, 0] (slot_inb c)) (dst := pSlot ![c.val, 0, 0] (slot_inb c)) (hsc := hsc)
      (sS := .dma (dsem 2 (Fin.castSucc ⟨n, hn⟩))) (sem := .dma (dsem 3 c)) (hsrc := hsrc) (hdst := hdst) (hsem := hsem)
      (fs := spread (accB I c)) (fd := spread (part I (around c n) c)) (r₁ := 0) (r₂ := 0) (d₁ := c) (d₂ := c)
      (κ₁ := K (s2C c (Fin.castSucc ⟨n, hn⟩))) (κ₂ := K (agC (around c n) c)) hd1 hd2 () () N (amount_p _)
      (amount_dma I c (2, Fin.castSucc ⟨n, hn⟩) 0 c) (amount_dma I (around c n) (3, c) 0 c) (oAg c (n + 1)) hO (W := W) hpay1 hpay2 (Es := Set.univ)
  iapply X $$ [Hsrc Hdst HO Ht1 Ht2]
  · isplitr; · iapply (pers_inv I K c c _); iexact Hp
    isplitr; · iapply (pers_inv I K c (around c n) _); iexact Hp
    isplitl [Hsrc]; · unfold pPts; rw [pSlot_set]; iexact Hsrc
    isplitl [Hdst]; · unfold pPts; rw [pSlot_set]; iexact Hdst
    isplitl [HO]; · iexact HO
    isplitl [Ht1]; · iexact Ht1
    isplitr; · iapply (pers_own I K c (2, Fin.castSucc ⟨n, hn⟩)); iexact Hp
    isplitl [Ht2]; · iexact Ht2
    iexact Hr2
  iintro ⟨Hc, HO⟩
  iapply Hk
  isplitl [HO]; · iexists W; iexact HO
  isplitl [Hts]; · iexact Hts
  isplitl [Hc]; · iexact Hc
  iexact Hdn

end Steps

end Cert.KernelIdeal.Own
-- ==== Proof.KernelIdeal.Slots.lean ====
/-
  Loads and stores: what they do to the slots of the two scratch buffers, to the operands and to the result.
-/
module

public import proofs.«01_k».proof.Proof.KernelIdeal.Steps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F)

section Slots

variable (c : Dev nD)

/-- A slot of the buffer of chunks to send, whatever it holds. -/
def pAny (k : Fin 8) : sProp 𝕄 := iprop(∃ f, pPts c k fullShare f)
/-- A slot of the buffer of received chunks, whatever it holds. -/
def rAny (k : Fin 8) : sProp 𝕄 := iprop(∃ f, rPts c k fullShare f)

theorem p_store {α : Type} {Kt : α → sProp 𝕄} (j : Fin 8) {off : Fin 3 → ℕ} {h : ∀ a, off a + S1x128x512.size a ≤ S8x128x512.size a} (e : off = ![j.val, 0, 0])
    {w : S1x128x512.Idx → Elt F .bf16}
    {hx : ((Memref.whole cc0_scratch0 : Memref sig .tc .vmem S8x128x512 .bf16).access (Rect.unit (s := S8x128x512) off S1x128x512.size h)).Stores Finset.univ}
    {hm : (Finset.univ : Finset (Rect.unit (s := S8x128x512) off S1x128x512.size h).shape.Idx) = Finset.univ ∨ ∀ a, (Rect.unit (s := S8x128x512) off S1x128x512.size h).stride a = 1}
    {k : PUnit → Prog (TpuEff nD τ sig (Elt F) Λ₀ .tc) α} :
    pAny c j ⊢ iprop((pPts c j fullShare (spread w) -∗ run c (k ⟨⟩) Kt)
      -∗ run c (.op (.store (Memref.whole cc0_scratch0) (Rect.unit (s := S8x128x512) off S1x128x512.size h) w Finset.univ hx hm) k) Kt) := by
  subst e
  unfold pAny pPts
  iintro ⟨%f, H⟩ Hk
  have X := wp_store (defs := defs₀ (F := F)) (Γ := []) (Q := Kt) (k := k) 𝒱₀ (c : Thread nD τ) none Set.univ (m := (Memref.whole cc0_scratch0 : Memref sig .tc .vmem S8x128x512 .bf16)) (r := slotRect j) (Mk := Finset.univ)
    (w := w) (hx := hx) (hm := hm) (S := slotSet j) (f := f) (by rw [View.setOn_univ, p_access_set])
  iapply X $$ H
  iintro H
  iapply Hk
  iapply (Entails.of_eq (pointsTo_congr (p_write j f w))) $$ H

theorem r_store {α : Type} {Kt : α → sProp 𝕄} (j : Fin 8) {off : Fin 3 → ℕ} {h : ∀ a, off a + S1x128x512.size a ≤ S8x128x512.size a} (e : off = ![j.val, 0, 0])
    {w : S1x128x512.Idx → Elt F .bf16}
    {hx : ((Memref.whole cc0_scratch1 : Memref sig .tc .vmem S8x128x512 .bf16).access (Rect.unit (s := S8x128x512) off S1x128x512.size h)).Stores Finset.univ}
    {hm : (Finset.univ : Finset (Rect.unit (s := S8x128x512) off S1x128x512.size h).shape.Idx) = Finset.univ ∨ ∀ a, (Rect.unit (s := S8x128x512) off S1x128x512.size h).stride a = 1}
    {k : PUnit → Prog (TpuEff nD τ sig (Elt F) Λ₀ .tc) α} :
    rAny c j ⊢ iprop((rPts c j fullShare (spread w) -∗ run c (k ⟨⟩) Kt)
      -∗ run c (.op (.store (Memref.whole cc0_scratch1) (Rect.unit (s := S8x128x512) off S1x128x512.size h) w Finset.univ hx hm) k) Kt) := by
  subst e
  unfold rAny rPts
  iintro ⟨%f, H⟩ Hk
  have X := wp_store (defs := defs₀ (F := F)) (Γ := []) (Q := Kt) (k := k) 𝒱₀ (c : Thread nD τ) none Set.univ (m := (Memref.whole cc0_scratch1 : Memref sig .tc .vmem S8x128x512 .bf16)) (r := slotRect j) (Mk := Finset.univ)
    (w := w) (hx := hx) (hm := hm) (S := slotSet j) (f := f) (by rw [View.setOn_univ, r_access_set])
  iapply X $$ H
  iintro H
  iapply Hk
  iapply (Entails.of_eq (pointsTo_congr (r_write j f w))) $$ H

/-- A load of a slot whose contents are known. -/
theorem p_load {α : Type} {Kt : α → sProp 𝕄} (j : Fin 8) {off : Fin 3 → ℕ} {h : ∀ a, off a + S1x128x512.size a ≤ S8x128x512.size a} (e : off = ![j.val, 0, 0])
    {q : PosShare TreeShare} {v : S1x128x512.Idx → Elt F .bf16}
    {hl : (Memref.whole cc0_scratch0 : Memref sig .tc .vmem S8x128x512 .bf16).view.LoadsAt (Rect.unit (s := S8x128x512) off S1x128x512.size h).toLoadRect}
    {k : Vec F S1x128x512 .bf16 → Prog (TpuEff nD τ sig (Elt F) Λ₀ .tc) α} :
    pPts c j q (spread v) ⊢ iprop((pPts c j q (spread v) -∗ run c (k v) Kt)
      -∗ run c (.op (.load (Memref.whole cc0_scratch0) (Rect.unit (s := S8x128x512) off S1x128x512.size h).toLoadRect hl) k) Kt) := by
  subst e
  unfold pPts
  iintro H Hk
  iapply (wp_load 𝒱₀ (c : Thread nD τ) none Set.univ (m := (Memref.whole cc0_scratch0 : Memref sig .tc .vmem S8x128x512 .bf16)) (r := (slotRect j).toLoadRect)
    (S := slotSet j) (f := spread v) (by exact (View.set_slice (Memref.whole cc0_scratch0 : Memref sig .tc .vmem S8x128x512 .bf16).view (slotRect j)).symm.subset.trans (p_access_set j).subset)) $$ H
  iintro H
  rw [show (Memref.whole cc0_scratch0 : Memref sig .tc .vmem S8x128x512 .bf16).view.readAt (Elt F) (slotRect j).toLoadRect (spread v) = v from p_read j v]
  iapply Hk; iexact H

theorem r_load {α : Type} {Kt : α → sProp 𝕄} (j : Fin 8) {off : Fin 3 → ℕ} {h : ∀ a, off a + S1x128x512.size a ≤ S8x128x512.size a} (e : off = ![j.val, 0, 0])
    {q : PosShare TreeShare} {v : S1x128x512.Idx → Elt F .bf16}
    {hl : (Memref.whole cc0_scratch1 : Memref sig .tc .vmem S8x128x512 .bf16).view.LoadsAt (Rect.unit (s := S8x128x512) off S1x128x512.size h).toLoadRect}
    {k : Vec F S1x128x512 .bf16 → Prog (TpuEff nD τ sig (Elt F) Λ₀ .tc) α} :
    rPts c j q (spread v) ⊢ iprop((rPts c j q (spread v) -∗ run c (k v) Kt)
      -∗ run c (.op (.load (Memref.whole cc0_scratch1) (Rect.unit (s := S8x128x512) off S1x128x512.size h).toLoadRect hl) k) Kt) := by
  subst e
  unfold rPts
  iintro H Hk
  iapply (wp_load 𝒱₀ (c : Thread nD τ) none Set.univ (m := (Memref.whole cc0_scratch1 : Memref sig .tc .vmem S8x128x512 .bf16)) (r := (slotRect j).toLoadRect)
    (S := slotSet j) (f := spread v) (by exact (View.set_slice (Memref.whole cc0_scratch1 : Memref sig .tc .vmem S8x128x512 .bf16).view (slotRect j)).symm.subset.trans (r_access_set j).subset)) $$ H
  iintro H
  rw [show (Memref.whole cc0_scratch1 : Memref sig .tc .vmem S8x128x512 .bf16).view.readAt (Elt F) (slotRect j).toLoadRect (spread v) = v from r_read j v]
  iapply Hk; iexact H

/-- A load of a slot whose value is not used. -/
theorem p_load_any {α : Type} {Kt : α → sProp 𝕄} (j : Fin 8) {off : Fin 3 → ℕ} {h : ∀ a, off a + S1x128x512.size a ≤ S8x128x512.size a} (e : off = ![j.val, 0, 0])
    {hl : (Memref.whole cc0_scratch0 : Memref sig .tc .vmem S8x128x512 .bf16).view.LoadsAt (Rect.unit (s := S8x128x512) off S1x128x512.size h).toLoadRect}
    {k : Vec F S1x128x512 .bf16 → Prog (TpuEff nD τ sig (Elt F) Λ₀ .tc) α} :
    pAny c j ⊢ iprop((∀ v, pAny c j -∗ run c (k v) Kt)
      -∗ run c (.op (.load (Memref.whole cc0_scratch0) (Rect.unit (s := S8x128x512) off S1x128x512.size h).toLoadRect hl) k) Kt) := by
  subst e
  unfold pAny pPts
  iintro ⟨%f, H⟩ Hk
  iapply (wp_load 𝒱₀ (c : Thread nD τ) none Set.univ (m := (Memref.whole cc0_scratch0 : Memref sig .tc .vmem S8x128x512 .bf16)) (r := (slotRect j).toLoadRect)
    (S := slotSet j) (f := f) (by exact (View.set_slice (Memref.whole cc0_scratch0 : Memref sig .tc .vmem S8x128x512 .bf16).view (slotRect j)).symm.subset.trans (p_access_set j).subset)) $$ H
  iintro H
  iapply Hk
  iexists f; iexact H

theorem r_load_any {α : Type} {Kt : α → sProp 𝕄} (j : Fin 8) {off : Fin 3 → ℕ} {h : ∀ a, off a + S1x128x512.size a ≤ S8x128x512.size a} (e : off = ![j.val, 0, 0])
    {hl : (Memref.whole cc0_scratch1 : Memref sig .tc .vmem S8x128x512 .bf16).view.LoadsAt (Rect.unit (s := S8x128x512) off S1x128x512.size h).toLoadRect}
    {k : Vec F S1x128x512 .bf16 → Prog (TpuEff nD τ sig (Elt F) Λ₀ .tc) α} :
    rAny c j ⊢ iprop((∀ v, rAny c j -∗ run c (k v) Kt)
      -∗ run c (.op (.load (Memref.whole cc0_scratch1) (Rect.unit (s := S8x128x512) off S1x128x512.size h).toLoadRect hl) k) Kt) := by
  subst e
  unfold rAny rPts
  iintro ⟨%f, H⟩ Hk
  iapply (wp_load 𝒱₀ (c : Thread nD τ) none Set.univ (m := (Memref.whole cc0_scratch1 : Memref sig .tc .vmem S8x128x512 .bf16)) (r := (slotRect j).toLoadRect)
    (S := slotSet j) (f := f) (by exact (View.set_slice (Memref.whole cc0_scratch1 : Memref sig .tc .vmem S8x128x512 .bf16).view (slotRect j)).symm.subset.trans (r_access_set j).subset)) $$ H
  iintro H
  iapply Hk
  iexists f; iexact H

/-! ## The operands -/

/-- The device's rearranged indices, in its window. -/
def iPts : sProp 𝕄 := ((c : Thread nD τ).loc cc0_stg0_0) ↦{fullShare} I.idx c
/-- The device's part of the table, in its window. -/
def tPts : sProp 𝕄 := ((c : Thread nD τ).loc cc0_stg1_0) ↦{fullShare} I.tab c

theorem i_load {α : Type} {Kt : α → sProp 𝕄} (t : Fin 8) {h : ∀ a, (![0, t.val] : Fin 2 → ℕ) a + S128x1.size a ≤ S128x8.size a}
    {hl : (Memref.whole cc0_stg0_0 : Memref sig .tc .vmem S128x8 .i32).view.LoadsAt (Rect.unit (s := S128x8) ![0, t.val] S128x1.size h).toLoadRect}
    {k : Vec F S128x1 .i32 → Prog (TpuEff nD τ sig (Elt F) Λ₀ .tc) α} :
    iPts I c ⊢ iprop((iPts I c -∗ run c (k (col (I.idx c) t)) Kt)
      -∗ run c (.op (.load (Memref.whole cc0_stg0_0) (Rect.unit (s := S128x8) ![0, t.val] S128x1.size h).toLoadRect hl) k) Kt) := by
  unfold iPts
  iintro H Hk
  iapply (wp_load 𝒱₀ (c : Thread nD τ) none Set.univ (m := (Memref.whole cc0_stg0_0 : Memref sig .tc .vmem S128x8 .i32))
    (S := Finset.univ) (f := I.idx c) (Finset.subset_univ _)) $$ H
  iintro H
  iapply Hk; iexact H

theorem read_tab (T : Vec F S4096x512 .f32) (h : ∀ a, (![0, 0] : Fin 2 → ℕ) a + S4096x512.size a ≤ S4096x512.size a) :
    (Memref.whole cc0_stg1_0 : Memref sig .tc .vmem S4096x512 .f32).view.readAt (Elt F) (Rect.unit (s := S4096x512) ![0, 0] S4096x512.size h).toLoadRect T = T := by
  funext x
  show T ((Rect.unit (s := S4096x512) ![0, 0] S4096x512.size h).emb x) = T x
  congr 1
  funext a
  refine Fin.ext ?_
  rw [Rect.emb_apply]
  fin_cases a <;> simp [Rect.unit]

theorem t_load {α : Type} {Kt : α → sProp 𝕄} {h : ∀ a, (![0, 0] : Fin 2 → ℕ) a + S4096x512.size a ≤ S4096x512.size a}
    {hl : (Memref.whole cc0_stg1_0 : Memref sig .tc .vmem S4096x512 .f32).view.LoadsAt (Rect.unit (s := S4096x512) ![0, 0] S4096x512.size h).toLoadRect}
    {k : Vec F S4096x512 .f32 → Prog (TpuEff nD τ sig (Elt F) Λ₀ .tc) α} :
    tPts I c ⊢ iprop((tPts I c -∗ run c (k (I.tab c)) Kt)
      -∗ run c (.op (.load (Memref.whole cc0_stg1_0) (Rect.unit (s := S4096x512) ![0, 0] S4096x512.size h).toLoadRect hl) k) Kt) := by
  unfold tPts
  iintro H Hk
  iapply (wp_load 𝒱₀ (c : Thread nD τ) none Set.univ (m := (Memref.whole cc0_stg1_0 : Memref sig .tc .vmem S4096x512 .f32))
    (S := Finset.univ) (f := I.tab c) (Finset.subset_univ _)) $$ H
  iintro H
  rw [read_tab]
  iapply Hk; iexact H

/-! ## The result -/

/-- The result's buffer, right in the blocks of `T`. -/
def outW (T : Finset (Dev nD)) : sProp 𝕄 :=
  iprop(∃ f, (((c : Thread nD τ).loc cc0_stg2_0) ↦{fullShare} f) ∗ ⌜∀ i, blockOf i ∈ T → f i = outBuf I c i⌝)

/-- The elements of block `s` of the result. -/
theorem block_mem (s : Dev nD) (h : ∀ a, (![128 * s.val, 0] : Fin 2 → ℕ) a + S128x512.size a ≤ S1024x512.size a) (i : S1024x512.Idx) :
    i ∈ (Rect.unit (s := S1024x512) ![128 * s.val, 0] S128x512.size h).set ↔ blockOf i = s := by
  rw [Rect.mem_set_unit]
  have h1 : (i 1).val < 512 := (i 1).isLt
  have h0 : (i 0).val < 1024 := (i 0).isLt
  constructor
  · intro H
    have := H 0
    simp [S128x512] at this
    exact Fin.ext (by show (i 0).val / 128 = s.val; omega)
  · intro H a
    have hv : (i 0).val / 128 = s.val := congrArg Fin.val H
    fin_cases a
    · simp [S128x512]; omega
    · simp [S128x512]; omega

theorem inBlock_emb (s : Dev nD) (h : ∀ a, (![128 * s.val, 0] : Fin 2 → ℕ) a + S128x512.size a ≤ S1024x512.size a) (x : S128x512.Idx) :
    inBlock ((Rect.unit (s := S1024x512) ![128 * s.val, 0] S128x512.size h).emb x) = x := by
  have h0 : (x 0).val < 128 := (x 0).isLt
  funext a
  fin_cases a
  · refine Fin.ext ?_
    show (((Rect.unit (s := S1024x512) ![128 * s.val, 0] S128x512.size h).emb x) 0).val % 128 = (x 0).val
    rw [Rect.emb_apply]; simp [Rect.unit]; omega
  · refine Fin.ext ?_
    show (((Rect.unit (s := S1024x512) ![128 * s.val, 0] S128x512.size h).emb x) 1).val = (x 1).val
    rw [Rect.emb_apply]; simp [Rect.unit]

theorem out_load {α : Type} {Kt : α → sProp 𝕄} {T : Finset (Dev nD)} {off : Fin 2 → ℕ} {h : ∀ a, off a + S128x512.size a ≤ S1024x512.size a}
    {hl : (Memref.whole cc0_stg2_0 : Memref sig .tc .vmem S1024x512 .f32).view.LoadsAt (Rect.unit (s := S1024x512) off S128x512.size h).toLoadRect}
    {k : Vec F S128x512 .f32 → Prog (TpuEff nD τ sig (Elt F) Λ₀ .tc) α} :
    outW I c T ⊢ iprop((∀ v, outW I c T -∗ run c (k v) Kt)
      -∗ run c (.op (.load (Memref.whole cc0_stg2_0) (Rect.unit (s := S1024x512) off S128x512.size h).toLoadRect hl) k) Kt) := by
  unfold outW
  iintro ⟨%f, H, %hf⟩ Hk
  iapply (wp_load 𝒱₀ (c : Thread nD τ) none Set.univ (m := (Memref.whole cc0_stg2_0 : Memref sig .tc .vmem S1024x512 .f32))
    (S := Finset.univ) (f := f) (Finset.subset_univ _)) $$ H
  iintro H
  iapply Hk
  iexists f
  isplitl [H]; · iexact H
  ipureintro; exact hf

theorem out_store {α : Type} {Kt : α → sProp 𝕄} {T : Finset (Dev nD)} (s : Dev nD) {off : Fin 2 → ℕ} {h : ∀ a, off a + S128x512.size a ≤ S1024x512.size a}
    (e : off = ![128 * s.val, 0]) {w : S128x512.Idx → Elt F .f32} (hw : w = outBlock I c s)
    {hx : ((Memref.whole cc0_stg2_0 : Memref sig .tc .vmem S1024x512 .f32).access (Rect.unit (s := S1024x512) off S128x512.size h)).Stores Finset.univ}
    {hm : (Finset.univ : Finset (Rect.unit (s := S1024x512) off S128x512.size h).shape.Idx) = Finset.univ ∨ ∀ a, (Rect.unit (s := S1024x512) off S128x512.size h).stride a = 1}
    {k : PUnit → Prog (TpuEff nD τ sig (Elt F) Λ₀ .tc) α} :
    outW I c T ⊢ iprop((outW I c (insert s T) -∗ run c (k ⟨⟩) Kt)
      -∗ run c (.op (.store (Memref.whole cc0_stg2_0) (Rect.unit (s := S1024x512) off S128x512.size h) w Finset.univ hx hm) k) Kt) := by
  subst e hw
  unfold outW
  iintro ⟨%f, H, %hf⟩ Hk
  iapply (wp_store 𝒱₀ (c : Thread nD τ) none Set.univ (m := (Memref.whole cc0_stg2_0 : Memref sig .tc .vmem S1024x512 .f32))
    (r := Rect.unit (s := S1024x512) ![128 * s.val, 0] S128x512.size h) (Mk := Finset.univ) (S := Finset.univ) (f := f) (Finset.subset_univ _)) $$ H
  iintro H
  iapply Hk
  iexists _
  isplitl [H]; · iexact H
  ipureintro
  intro i hi
  by_cases hs : blockOf i = s
  · obtain ⟨x, hx'⟩ := (Rect.unit (s := S1024x512) ![128 * s.val, 0] S128x512.size h).exists_idx_of_mem ((block_mem s h i).mpr hs)
    subst hx'
    refine (View.write_emb_of_mem (v := (Memref.whole cc0_stg2_0 : Memref sig .tc .vmem S1024x512 .f32).access (Rect.unit (s := S1024x512) ![128 * s.val, 0] S128x512.size h))
      f (outBlock I c s) (Finset.mem_univ x)).trans ?_
    show outBlock I c s x = outBlock I c (blockOf _) (inBlock _)
    rw [hs]; exact congrArg (outBlock I c s) (inBlock_emb s h x).symm
  · refine (View.write_of_not_mem (v := (Memref.whole cc0_stg2_0 : Memref sig .tc .vmem S1024x512 .f32).access (Rect.unit (s := S1024x512) ![128 * s.val, 0] S128x512.size h))
      f (outBlock I c s) Finset.univ ?_).trans (hf i ((Finset.mem_insert.mp hi).resolve_left hs))
    rw [show ((Memref.whole cc0_stg2_0 : Memref sig .tc .vmem S1024x512 .f32).access (Rect.unit (s := S1024x512) ![128 * s.val, 0] S128x512.size h)).setOn Finset.univ
      = (Rect.unit (s := S1024x512) ![128 * s.val, 0] S128x512.size h).set from View.set_slice_whole _ _]
    intro hmem
    exact hs ((block_mem s h i).mp hmem)

/-- With all blocks right the buffer holds the result. -/
theorem outW_univ : outW I c Finset.univ ⊢ (((c : Thread nD τ).loc cc0_stg2_0) ↦{fullShare} outBuf I c : sProp 𝕄) := by
  unfold outW
  iintro ⟨%f, H, %hf⟩
  rw [show f = outBuf I c from funext fun i => hf i (Finset.mem_univ _)]
  iexact H

end Slots

end Cert.KernelIdeal.Own
-- ==== Proof.KernelIdeal.Phases.lean ====
/-
  The waits of the two exchanges, one peer after another, and what the device holds between them.
-/
module

public import proofs.«01_k».proof.Proof.KernelIdeal.Slots

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Phases

variable (c : Dev nD)

/-- The kernel's test that a number is not its own. -/
theorem cond_iff (c : Dev nD) (s : Fin 8) :
    (Scalar.cmpi .ne (Scalar.extui (Scalar.cmpi .ne (myWord c) (BitVec.ofNat 32 s.val)) : BitVec 32) 0#32 = 1#1) ↔ s ≠ c := by
  revert c s; decide +kernel

theorem lv_le_three (c : Dev nD) (j : Fin 4) (k : Fin 8) : lv (cell c (some (j, k))) () ≤ 3 := by
  rw [lv_cell]; revert j k; decide
theorem lv_le_two (c : Dev nD) (j : Fin 4) (h : j ≠ 3) (k : Fin 8) : lv (cell c (some (j, k))) () ≤ 2 := by
  rw [lv_cell]; revert j k; decide

/-! ## The receives of the first exchange -/

/-- Before the wait for device `s`: the credit for it, or, for the device's own part, what it wrote itself. -/
def rsTodo (s : Fin 8) : sProp 𝕄 :=
  iprop(atPos ER (rsC c s) 0 ∅ 0 ∗ (if s = c then rsPay I c c else cred (tallyAt (rsC c s) () N)))
/-- After it: the contribution of `s` is there. -/
def rsDone (s : Fin 8) : sProp 𝕄 := iprop(rsPay I c s ∗ spent I c (some (1, s)))

/-- Before the `n`-th wait. -/
def rsSt (n : ℕ) : sProp 𝕄 := iprop(ow c (oAg c 0) ∗ rest n (rsTodo I c) ∗ done n (rsDone I c))

theorem rs_step {α : Type} {Kt : α → sProp 𝕄} (n : ℕ) (hn : n < 8) {v : BitVec 1} (hv : v = 1#1 ↔ (⟨n, hn⟩ : Fin 8) ≠ c)
    {sem : DmaSem sig} (hsem : sem = dsem 1 ⟨n, hn⟩) {s s' : Shape} {e e' : EltTy} {sp sp' : Space}
    {src : Memref sig .tc sp' s' e'} {dst : Memref sig .tc sp s e} (hN : dst.view.dmaCredit = N)
    {hsrc : src.view.WordExact} {hdst : dst.view.WordExact}
    {k : PUnit → Prog (TpuEff nD τ sig (Elt F) Λ₀ .tc) α} :
    iprop(pers I K c ∗ rsSt I c n)
      ⊢ iprop((rsSt I c (n + 1) -∗ run c (k ⟨⟩) Kt)
          -∗ run c ((if _ : v = 1#1 then .op (.waitDma2 sem src dst hsrc hdst) (fun _ => .ret ⟨⟩) else .ret ⟨⟩ : Prog (TpuEff nD τ sig (Elt F) Λ₀ .tc) PUnit) >>= k) Kt) := by
  unfold rsSt
  rw [rest_pop _ hn, done_push _ hn]
  unfold rsTodo rsDone
  by_cases h : (⟨n, hn⟩ : Fin 8) = c
  · rw [dif_neg (fun hh => hv.mp hh h), if_pos h]
    simp only [Prog.bind_ret]
    iintro ⟨#Hp, HO, ⟨⟨Hat, Hrs⟩, Hrest⟩, Hdn⟩ Hk
    iapply Hk
    isplitl [HO]; · iexact HO
    isplitl [Hrest]; · iexact Hrest
    isplitr [Hdn]
    · isplitl [Hrs]; · rw [h]; iexact Hrs
      iapply (spent_idle I c (1, ⟨n, hn⟩) (by rw [h]; show (if c = c then _ else _) = _; exact if_pos rfl)) $$ Hat
    iexact Hdn
  · rw [dif_pos (hv.mpr h), if_neg h]
    simp only [Prog.bind_op, Prog.bind_ret]
    iintro ⟨#Hp, HO, ⟨⟨Hat, Hc⟩, Hrest⟩, Hdn⟩ Hk
    iapply (dma_wait I K c (1, ⟨n, hn⟩) ⟨n, hn⟩ (duties_rs I c h) (oAg c 0) 2 (lv_le_two c _ (by decide) _) (above_ag c 0) hsem hN) $$ [HO Hat Hc]
    · isplitr; · iexact Hp
      isplitl [HO]; · iexact HO
      isplitl [Hat]; · iexact Hat
      iexact Hc
    rw [show payOf I c (some (some (1, (⟨n, hn⟩ : Fin 8)))) ⟨n, hn⟩ = rsPay I c ⟨n, hn⟩ from rfl]
    iintro ⟨HO, Hsp, Hpay⟩
    iapply Hk
    isplitl [HO]; · iexact HO
    isplitl [Hrest]; · iexact Hrest
    isplitr [Hdn]
    · isplitl [Hpay]; · iexact Hpay
      iexact Hsp
    iexact Hdn

/-! ## The sends, waited for -/

/-- Before the wait for the `t`-th send of the first exchange. -/
def s1Todo (t : Fin 7) : sProp 𝕄 := iprop(atPos ER (s1C c t.castSucc) 0 ∅ 0 ∗ cred (tallyAt (s1C c t.castSucc) () N))
def s1St (n : ℕ) : sProp 𝕄 := iprop(ow c (oAg c 0) ∗ rest n (s1Todo (F := F) c) ∗ done n (fun t : Fin 7 => spent I c (some (0, t.castSucc))))

theorem s1_step {α : Type} {Kt : α → sProp 𝕄} (n : ℕ) (hn : n < 7)
    {sem : DmaSem sig} (hsem : sem = dsem 0 (Fin.castSucc ⟨n, hn⟩)) {s s' : Shape} {e e' : EltTy} {sp sp' : Space}
    {src : Memref sig .tc sp' s' e'} {dst : Memref sig .tc sp s e} (hN : dst.view.dmaCredit = N)
    {hsrc : src.view.WordExact} {hdst : dst.view.WordExact}
    {k : PUnit → Prog (TpuEff nD τ sig (Elt F) Λ₀ .tc) α} :
    iprop(pers I K c ∗ s1St I c n)
      ⊢ iprop((s1St I c (n + 1) -∗ run c (k ⟨⟩) Kt) -∗ run c (.op (.waitDma2 sem src dst hsrc hdst) k) Kt) := by
  unfold s1St
  rw [rest_pop _ hn, done_push _ hn]
  unfold s1Todo
  iintro ⟨#Hp, HO, ⟨⟨Hat, Hc⟩, Hrest⟩, Hdn⟩ Hk
  iapply (dma_wait I K c (0, Fin.castSucc ⟨n, hn⟩) c (duties_s1 I c (castSucc_ne _)) (oAg c 0) 2 (lv_le_two c _ (by decide) _) (above_ag c 0) hsem hN) $$ [HO Hat Hc]
  · isplitr; · iexact Hp
    isplitl [HO]; · iexact HO
    isplitl [Hat]; · iexact Hat
    iexact Hc
  iintro ⟨HO, Hsp, -⟩
  iapply Hk
  isplitl [HO]; · iexact HO
  isplitl [Hrest]; · iexact Hrest
  isplitl [Hsp]; · iexact Hsp
  iexact Hdn

/-- Before the wait for the `t`-th send of the second exchange. -/
def s2Todo (t : Fin 7) : sProp 𝕄 := iprop(atPos ER (s2C c t.castSucc) 0 ∅ 0 ∗ cred (tallyAt (s2C c t.castSucc) () N))
def s2Done (t : Fin 7) : sProp 𝕄 := iprop(s2Pay I c t.castSucc ∗ spent I c (some (2, t.castSucc)))
def s2St (n : ℕ) : sProp 𝕄 := iprop(ow c 0 ∗ rest n (s2Todo (F := F) c) ∗ done n (s2Done I c))

theorem s2_step {α : Type} {Kt : α → sProp 𝕄} (n : ℕ) (hn : n < 7)
    {sem : DmaSem sig} (hsem : sem = dsem 2 (Fin.castSucc ⟨n, hn⟩)) {s s' : Shape} {e e' : EltTy} {sp sp' : Space}
    {src : Memref sig .tc sp' s' e'} {dst : Memref sig .tc sp s e} (hN : dst.view.dmaCredit = N)
    {hsrc : src.view.WordExact} {hdst : dst.view.WordExact}
    {k : PUnit → Prog (TpuEff nD τ sig (Elt F) Λ₀ .tc) α} :
    iprop(pers I K c ∗ s2St I c n)
      ⊢ iprop((s2St I c (n + 1) -∗ run c (k ⟨⟩) Kt) -∗ run c (.op (.waitDma2 sem src dst hsrc hdst) k) Kt) := by
  unfold s2St
  rw [rest_pop _ hn, done_push _ hn]
  unfold s2Todo s2Done
  iintro ⟨#Hp, HO, ⟨⟨Hat, Hc⟩, Hrest⟩, Hdn⟩ Hk
  iapply (dma_wait I K c (2, Fin.castSucc ⟨n, hn⟩) c (duties_s2 I c (castSucc_ne _)) 0 3 (lv_le_three c _ _) (above_zero 3) hsem hN) $$ [HO Hat Hc]
  · isplitr; · iexact Hp
    isplitl [HO]; · iexact HO
    isplitl [Hat]; · iexact Hat
    iexact Hc
  rw [show payOf I c (some (some (2, Fin.castSucc ⟨n, hn⟩))) c = s2Pay I c (Fin.castSucc ⟨n, hn⟩) from rfl]
  iintro ⟨HO, Hsp, Hpay⟩
  iapply Hk
  isplitl [HO]; · iexact HO
  isplitl [Hrest]; · iexact Hrest
  isplitr [Hdn]
  · isplitl [Hpay]; · iexact Hpay
    iexact Hsp
  iexact Hdn

/-! ## The receives of the second exchange -/

/-- Before the wait for block `s`. -/
def agTodo (s : Fin 8) : sProp 𝕄 :=
  iprop(atPos ER (agC c s) 0 ∅ 0 ∗ (if s = c then iprop(emp) else cred (tallyAt (agC c s) () N)))
/-- After it: the block is there, the device's own one excepted. -/
def agDone (s : Fin 8) : sProp 𝕄 :=
  iprop((if s = c then iprop(emp) else agPay I c s) ∗ spent I c (some (3, s)))

/-- Before the `n`-th wait: the result has the device's own block and the earlier ones. -/
def agSt (n : ℕ) : sProp 𝕄 := iprop(ow c 0 ∗ outW I c (insert c (below 8 n)) ∗ rest n (agTodo (F := F) c) ∗ done n (agDone I c))

theorem ag_step {α : Type} {Kt : α → sProp 𝕄} (n : ℕ) (hn : n < 8) {v : BitVec 1} (hv : v = 1#1 ↔ (⟨n, hn⟩ : Fin 8) ≠ c)
    {sem : DmaSem sig} (hsem : sem = dsem 3 ⟨n, hn⟩) {s s' : Shape} {e e' : EltTy} {sp sp' : Space}
    {src : Memref sig .tc sp' s' e'} {dst : Memref sig .tc sp s e} (hN : dst.view.dmaCredit = N)
    {hsrc : src.view.WordExact} {hdst : dst.view.WordExact}
    {off : Fin 3 → ℕ} {h : ∀ a, off a + S1x128x512.size a ≤ S8x128x512.size a} (e1 : off = ![n, 0, 0])
    {hl : (Memref.whole cc0_scratch0 : Memref sig .tc .vmem S8x128x512 .bf16).view.LoadsAt (Rect.unit (s := S8x128x512) off S1x128x512.size h).toLoadRect}
    {off2 : Fin 2 → ℕ} {h2 : ∀ a, off2 a + S128x512.size a ≤ S1024x512.size a} (e2 : off2 = ![128 * n, 0])
    {hl2 : (Memref.whole cc0_stg2_0 : Memref sig .tc .vmem S1024x512 .f32).view.LoadsAt (Rect.unit (s := S1024x512) off2 S128x512.size h2).toLoadRect}
    {pay : Vec F S1x128x512 .bf16 → Vec F S128x512 .f32} (hpay : pay = k0_pay17)
    {hx : ((Memref.whole cc0_stg2_0 : Memref sig .tc .vmem S1024x512 .f32).access (Rect.unit (s := S1024x512) off2 S128x512.size h2)).Stores Finset.univ}
    {hm : (Finset.univ : Finset (Rect.unit (s := S1024x512) off2 S128x512.size h2).shape.Idx) = Finset.univ ∨ ∀ a, (Rect.unit (s := S1024x512) off2 S128x512.size h2).stride a = 1}
    {k : PUnit → Prog (TpuEff nD τ sig (Elt F) Λ₀ .tc) α} :
    iprop(pers I K c ∗ agSt I c n)
      ⊢ iprop((agSt I c (n + 1) -∗ run c (k ⟨⟩) Kt)
          -∗ run c ((if _ : v = 1#1 then
              .op (.waitDma2 sem src dst hsrc hdst) (fun _ =>
                .op (.load (Memref.whole cc0_scratch0) (Rect.unit (s := S8x128x512) off S1x128x512.size h).toLoadRect hl) (fun x =>
                .op (.load (Memref.whole cc0_stg2_0) (Rect.unit (s := S1024x512) off2 S128x512.size h2).toLoadRect hl2) (fun _ =>
                .op (.store (Memref.whole cc0_stg2_0) (Rect.unit (s := S1024x512) off2 S128x512.size h2) (pay x) Finset.univ hx hm) (fun _ => .ret ⟨⟩)))) else .ret ⟨⟩ : Prog (TpuEff nD τ sig (Elt F) Λ₀ .tc) PUnit) >>= k) Kt) := by
  subst hpay
  unfold agSt
  rw [rest_pop _ hn, done_push _ hn, below_succ hn]
  unfold agTodo agDone
  by_cases hc : (⟨n, hn⟩ : Fin 8) = c
  · rw [dif_neg (fun hh => hv.mp hh hc), if_pos hc, if_pos hc,
      show insert c (insert (⟨n, hn⟩ : Fin 8) (below 8 n)) = insert c (below 8 n) from by rw [hc]; exact Finset.insert_idem _ _]
    simp only [Prog.bind_ret]
    iintro ⟨#Hp, HO, Hout, ⟨⟨Hat, -⟩, Hrest⟩, Hdn⟩ Hk
    iapply Hk
    isplitl [HO]; · iexact HO
    isplitl [Hout]; · iexact Hout
    isplitl [Hrest]; · iexact Hrest
    isplitr [Hdn]
    · isplitr; · iempintro
      iapply (spent_idle I c (3, ⟨n, hn⟩) (by rw [hc]; show (if c = c then _ else _) = _; exact if_pos rfl)) $$ Hat
    iexact Hdn
  · rw [dif_pos (hv.mpr hc), if_neg hc, if_neg hc,
      show insert c (insert (⟨n, hn⟩ : Fin 8) (below 8 n)) = insert (⟨n, hn⟩ : Fin 8) (insert c (below 8 n)) from Finset.insert_comm _ _ _]
    simp only [Prog.bind_op, Prog.bind_ret]
    iintro ⟨#Hp, HO, Hout, ⟨⟨Hat, Hc⟩, Hrest⟩, Hdn⟩ Hk
    iapply (dma_wait I K c (3, ⟨n, hn⟩) ⟨n, hn⟩ (duties_ag I c hc) 0 3 (lv_le_three c _ ⟨n, hn⟩) (above_zero 3) hsem hN) $$ [HO Hat Hc]
    · isplitr; · iexact Hp
      isplitl [HO]; · iexact HO
      isplitl [Hat]; · iexact Hat
      iexact Hc
    rw [show payOf I c (some (some (3, (⟨n, hn⟩ : Fin 8)))) ⟨n, hn⟩ = agPay I c ⟨n, hn⟩ from rfl]
    unfold agPay
    iintro ⟨HO, Hsp, Hpay⟩
    iapply (p_load c ⟨n, hn⟩ e1) $$ Hpay
    iintro Hpay
    iapply (out_load I c) $$ Hout
    iintro %v2 Hout
    iapply (out_store I c ⟨n, hn⟩ e2 (by unfold outBlock; rw [if_neg hc])) $$ Hout
    iintro Hout
    iapply Hk
    isplitl [HO]; · iexact HO
    isplitl [Hout]; · iexact Hout
    isplitl [Hrest]; · iexact Hrest
    isplitr [Hdn]
    · isplitl [Hpay]; · iexact Hpay
      iexact Hsp
    iexact Hdn

end Phases

end Cert.KernelIdeal.Own
-- ==== Proof.KernelIdeal.Opening.lean ====
/-
  The opening of the kernel: the signals to the peers, the wait for theirs, and the first chunk.
-/
module

public import proofs.«01_k».proof.Proof.KernelIdeal.Phases

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Opening

variable (c : Dev nD)

/-- The number of the `n`-th device after this one, as the kernel computes it. -/
theorem around_mk (n j : ℕ) (hj : j = n + 1) {m : ℕ} (h : m < nD) (e : m = (c.val + j) % 8) : (⟨m, h⟩ : Dev nD) = around c n := by
  apply Fin.ext
  show m = (c.val + n + 1) % 8
  rw [e, hj, Nat.add_assoc]

/-- The first five signals. -/
theorem part1_run {α : Type} {Kt : α → sProp 𝕄} {k : _ → Prog (TpuEff nD τ sig (Elt F) Λ₀ .tc) α} :
    iprop(pers I K c ∗ sigSt (F := F) c 0)
      ⊢ iprop((sigSt (F := F) c 5 -∗ run c (k ⟨c, myWord c, SemArray.scalar (sig.barrier 0 rfl), Scalar.addi (myWord c) 6#32, 8#32⟩) Kt)
          -∗ run c (k0_part1 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 >>= k) Kt) := by
  simp only [k0_part1_eq_skeleton]
  unfold k0_part1_skel
  simp only [semSignalWord, semWaitWord, Prog.lift, Prog.bind_op, Prog.bind_ret, Prog.pure_eq_ret, bind_assoc, wp_deviceId]
  iintro ⟨#Hp, H⟩ Hk
  iapply (signal_step I K c 0 (by decide) (congrArg Dev.tc (around_mk c 0 1 rfl (k0_dev1_lt c) (k0_dev1_eq c))) rfl (by decide)) $$ [H]
  · isplitr; · iexact Hp
    iexact H
  iintro H
  iapply (signal_step I K c 1 (by decide) (congrArg Dev.tc (around_mk c 1 2 rfl (k0_dev2_lt c) (k0_dev2_eq c))) rfl (by decide)) $$ [H]
  · isplitr; · iexact Hp
    iexact H
  iintro H
  iapply (signal_step I K c 2 (by decide) (congrArg Dev.tc (around_mk c 2 3 rfl (k0_dev3_lt c) (k0_dev3_eq c))) rfl (by decide)) $$ [H]
  · isplitr; · iexact Hp
    iexact H
  iintro H
  iapply (signal_step I K c 3 (by decide) (congrArg Dev.tc (around_mk c 3 4 rfl (k0_dev4_lt c) (k0_dev4_eq c))) rfl (by decide)) $$ [H]
  · isplitr; · iexact Hp
    iexact H
  iintro H
  iapply (signal_step I K c 4 (by decide) (congrArg Dev.tc (around_mk c 4 5 rfl (k0_dev5_lt c) (k0_dev5_eq c))) rfl (by decide)) $$ [H]
  · isplitr; · iexact Hp
    iexact H
  iexact Hk

end Opening

end Cert.KernelIdeal.Own
-- ==== Proof.KernelIdeal.Chunks.lean ====
/-
  The eight chunks: each is computed and stored in its slot, and all but the device's own are sent.
-/
module

public import proofs.«01_k».proof.Proof.KernelIdeal.Opening

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Chunks

variable (c : Dev nD)

/-- Before the `n`-th chunk is stored: its slot and the later ones hold anything. -/
def openSt (n : ℕ) : sProp 𝕄 := iprop(sendSt (F := F) c n ∗ rest n (fun t : Fin 8 => pAny (F := F) c (around c t.val)))
/-- The `n`-th chunk is stored and not yet sent. -/
def filledSt (n : ℕ) : sProp 𝕄 :=
  iprop(sendSt (F := F) c n ∗ pPts c (around c n) fullShare (spread (part I c (around c n))) ∗ rest (n + 1) (fun t : Fin 8 => pAny (F := F) c (around c t.val)))

theorem open_load {α : Type} {Kt : α → sProp 𝕄} (n : ℕ) (hn : n < 8) {off : Fin 3 → ℕ} {h : ∀ a, off a + S1x128x512.size a ≤ S8x128x512.size a} (e : off = ![(around c n).val, 0, 0])
    {hl : (Memref.whole cc0_scratch0 : Memref sig .tc .vmem S8x128x512 .bf16).view.LoadsAt (Rect.unit (s := S8x128x512) off S1x128x512.size h).toLoadRect}
    {k : Vec F S1x128x512 .bf16 → Prog (TpuEff nD τ sig (Elt F) Λ₀ .tc) α} :
    openSt c n ⊢ iprop((∀ v, openSt c n -∗ run c (k v) Kt)
      -∗ run c (.op (.load (Memref.whole cc0_scratch0) (Rect.unit (s := S8x128x512) off S1x128x512.size h).toLoadRect hl) k) Kt) := by
  unfold openSt
  rw [rest_pop _ hn]
  iintro ⟨Hs, Hp, Hr⟩ Hk
  iapply (p_load_any c (around c n) e) $$ Hp
  iintro %v Hp
  iapply Hk
  isplitl [Hs]; · iexact Hs
  isplitl [Hp]; · iexact Hp
  iexact Hr

theorem open_store {α : Type} {Kt : α → sProp 𝕄} (n : ℕ) (hn : n < 8) {off : Fin 3 → ℕ} {h : ∀ a, off a + S1x128x512.size a ≤ S8x128x512.size a} (e : off = ![(around c n).val, 0, 0])
    {w : S1x128x512.Idx → Elt F .bf16} (hw : w = part I c (around c n))
    {hx : ((Memref.whole cc0_scratch0 : Memref sig .tc .vmem S8x128x512 .bf16).access (Rect.unit (s := S8x128x512) off S1x128x512.size h)).Stores Finset.univ}
    {hm : (Finset.univ : Finset (Rect.unit (s := S8x128x512) off S1x128x512.size h).shape.Idx) = Finset.univ ∨ ∀ a, (Rect.unit (s := S8x128x512) off S1x128x512.size h).stride a = 1}
    {k : PUnit → Prog (TpuEff nD τ sig (Elt F) Λ₀ .tc) α} :
    openSt c n ⊢ iprop((filledSt I c n -∗ run c (k ⟨⟩) Kt)
      -∗ run c (.op (.store (Memref.whole cc0_scratch0) (Rect.unit (s := S8x128x512) off S1x128x512.size h) w Finset.univ hx hm) k) Kt) := by
  subst hw
  unfold openSt filledSt
  rw [rest_pop _ hn]
  iintro ⟨Hs, Hp, Hr⟩ Hk
  iapply (p_store c (around c n) e) $$ Hp
  iintro Hp
  iapply Hk
  isplitl [Hs]; · iexact Hs
  isplitl [Hp]; · iexact Hp
  iexact Hr

theorem fill_send {α : Type} {Kt : α → sProp 𝕄} (n : ℕ) (hn : n < 7) {p : Dev nD} (hp : p = around c n)
    {o1 o2 : Fin 3 → ℕ} {h1 : ∀ a, o1 a + S1x128x512.size a ≤ S8x128x512.size a} {h2 : ∀ a, o2 a + S1x128x512.size a ≤ S8x128x512.size a}
    (e1 : o1 = ![(around c n).val, 0, 0]) (e2 : o2 = ![c.val, 0, 0])
    {sS sD : DmaSem sig} (hS : sS = dsem 0 (Fin.castSucc ⟨n, hn⟩)) (hD : sD = dsem 1 c)
    {hsc : (rSlot o2 h2).view.ref.isScScratch = false} {hsrc : (pSlot o1 h1).view.WordExact} {hdst : (rSlot o2 h2).view.WordExact}
    {hsem : DmaTarget.Typed .vmem (.dma sD) (.remote (Dev.tc p : Thread nD τ) (rSlot o2 h2) (.dma sS) hsc)}
    {k : PUnit → Prog (TpuEff nD τ sig (Elt F) Λ₀ .tc) α} :
    iprop(pers I K c ∗ filledSt I c n)
      ⊢ iprop((openSt c (n + 1) -∗ run c (k ⟨⟩) Kt)
          -∗ run c (.op (.enqueueDma (pSlot o1 h1) (.remote (Dev.tc p : Thread nD τ) (rSlot o2 h2) (.dma sS) hsc) (.dma sD) hsrc hdst hsem) k) Kt) := by
  unfold filledSt openSt
  iintro ⟨#Hp, Hs, Hx, Hr⟩ Hk
  iapply (send1_step I K c n hn hp e1 e2 hS hD) $$ [Hs Hx]
  · isplitr; · iexact Hp
    isplitl [Hs]; · iexact Hs
    iexact Hx
  iintro Hs
  iapply Hk
  isplitl [Hs]; · iexact Hs
  iexact Hr

/-- A column that serves the `n`-th block gives the device's contribution to it. -/
theorem chunk_eq (t : Fin 8) : k0_pay2 (myWord c) (I.tab c) (col (I.idx c) t) = part I c (around c t.val) := by
  unfold part; rw [turn_around]

/-- The operands and the device's numbers in the first chunk's place. -/
def startTok (t : Fin 7) : sProp 𝕄 := iprop(dutyTok ER (rsC (around c t.val) c) 0 c ∗ dutyTok ER (s1C c t.castSucc) 0 c)

/-- Tokens and what the peers gave at the barrier, together, are what the sends take. -/
theorem chunkTok_all : bigSep Finset.univ (chunkTok (F := F) c)
    = iprop(bigSep Finset.univ (startTok (F := F) c) ∗ bigSep Finset.univ (fun t : Fin 7 => (barPay c (around c t.val) : sProp 𝕄))) := by
  have h : chunkTok (F := F) c = fun t => iprop(startTok (F := F) c t ∗ barPay c (around c t.val)) := by
    funext t
    unfold chunkTok startTok
    exact equiv_iff.mp ⟨BI.sep_assoc', BI.sep_assoc⟩
  rw [h]
  exact bigSep_sep' _ _ _

/-- Everything the kernel needs from the end of the signals to the first chunk. -/
def afterSig : sProp 𝕄 :=
  iprop(sigSt (F := F) c 5 ∗ atPos ER (barC c) 0 ∅ 0 ∗ cred (tallyAt (barC c) () 7)
    ∗ bigSep Finset.univ (startTok (F := F) c) ∗ rest 0 (fun t : Fin 8 => pAny (F := F) c (around c t.val)) ∗ iPts I c ∗ tPts I c)

/-- The last signals, the barrier, and the first chunk. -/
theorem part2_run {α : Type} {Kt : α → sProp 𝕄} (v24 c8 : BitVec 32) {k : _ → Prog (TpuEff nD τ sig (Elt F) Λ₀ .tc) α} :
    iprop(pers I K c ∗ afterSig I c)
      ⊢ iprop((iprop(spent I c none ∗ iPts I c ∗ tPts I c ∗ filledSt I c 0) -∗ run c (k ⟨Scalar.muli (myWord c) 4096#32, k0_pay1 (I.tab c), iota .tc S128x4096 32 [1] iota_S128x4096_d1_w32⟩) Kt)
          -∗ run c (k0_part2 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (SemArray.scalar (sig.barrier 0 rfl)) v24 c8 >>= k) Kt) := by
  simp only [k0_part2_eq_skeleton]
  unfold k0_part2_skel
  simp only [semSignalWord, semWaitWord, Prog.lift, Prog.bind_op, Prog.bind_ret, Prog.pure_eq_ret, bind_assoc]
  unfold afterSig
  iintro ⟨#Hp, H, Hat, Hc, Htok, Hany, Hi, Ht⟩ Hk
  iapply (signal_step I K c 5 (by decide) (congrArg Dev.tc (around_mk c 5 6 rfl (k0_dev6_lt c) (k0_dev6_eq c))) rfl (by decide)) $$ [H]
  · isplitr; · iexact Hp
    iexact H
  iintro H
  iapply (signal_step I K c 6 (by decide) (congrArg Dev.tc (around_mk c 6 7 rfl (k0_dev7_lt c) (k0_dev7_eq c))) rfl (by decide)) $$ [H]
  · isplitr; · iexact Hp
    iexact H
  iintro H
  iapply (bar_step I K c rfl (by decide)) $$ [H Hat Hc]
  · isplitr; · iexact Hp
    isplitl [H]; · iexact H
    isplitl [Hat]; · iexact Hat
    iexact Hc
  iintro ⟨HO, Hsp, Hbar⟩
  iapply (t_load I c) $$ Ht
  iintro Ht
  iapply (i_load I c 0) $$ Hi
  iintro Hi
  ihave Hopen : openSt (F := F) c 0 $$ [HO Hbar Htok Hany]
  · unfold openSt sendSt
    isplitr [Hany]
    · isplitl [HO]; · iexact HO
      isplitr []
      · rw [rest_zero, chunkTok_all]
        isplitl [Htok]; · iexact Htok
        iexact Hbar
      · rw [done_zero]; iempintro
    iexact Hany
  iapply (open_load c 0 (by decide) (k0_off1_eq c 0)) $$ Hopen
  iintro %v Hopen
  iapply (open_store I c 0 (by decide) (k0_off1_eq c 0) (chunk_eq I c 0)) $$ Hopen
  iintro Hf
  iapply Hk
  isplitl [Hsp]; · iexact Hsp
  isplitl [Hi]; · iexact Hi
  isplitl [Ht]; · iexact Ht
  iexact Hf

end Chunks

end Cert.KernelIdeal.Own
-- ==== Proof.KernelIdeal.Sends.lean ====
/-
  The chunks after the first, part by part of the printed kernel.
-/
module

public import proofs.«01_k».proof.Proof.KernelIdeal.Chunks

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Sends

variable (c : Dev nD)

/-- Where the device's own block of the table begins. -/
abbrev base : BitVec 32 := Scalar.muli (myWord c) 4096#32
/-- The numbers of the rows of that block, along every row. -/
abbrev rowNos : IVec S128x4096 32 := iota .tc S128x4096 32 [1] iota_S128x4096_d1_w32

/-- Chunks 0 and 1 are sent. -/
theorem part3_run {α : Type} {Kt : α → sProp 𝕄} {k : _ → Prog (TpuEff nD τ sig (Elt F) Λ₀ .tc) α} :
    iprop(pers I K c ∗ iPts I c ∗ filledSt I c 0)
      ⊢ iprop((iprop(iPts I c ∗ openSt (F := F) c 2) -∗ run c (k (Scalar.addi (myWord c) 1#32)) Kt)
          -∗ run c (k0_part3 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (base c) (k0_pay1 (I.tab c)) rowNos >>= k) Kt) := by
  simp only [k0_part3_eq_skeleton]
  unfold k0_part3_skel
  simp only [Prog.lift, Prog.bind_op, Prog.bind_ret, Prog.pure_eq_ret]
  iintro ⟨#Hp, Hi, H⟩ Hk
  iapply (fill_send I K c 0 (by decide) (around_mk c 0 1 rfl (k0_dev8_lt c) (k0_dev8_eq c)) (k0_off4_eq c 0) (k0_off3_eq c)
    (sem_slice 3 _ (0 : Fin 8) _ rfl _) (sem_slice 11 _ c _ (k0_off2_eq c) _)) $$ [H]
  · isplitr; · iexact Hp
    iexact H
  iintro H
  iapply (i_load I c 1) $$ Hi
  iintro Hi
  iapply (open_load c 1 (by decide) (k0_off1_eq c 1)) $$ H
  iintro %v H
  iapply (open_store I c 1 (by decide) (k0_off1_eq c 1) (chunk_eq I c 1)) $$ H
  iintro H
  iapply (fill_send I K c 1 (by decide) (around_mk c 1 2 rfl (k0_dev9_lt c) (k0_dev9_eq c)) (k0_off4_eq c 1) (k0_off3_eq c)
    (sem_slice 3 _ (1 : Fin 8) _ rfl _) (sem_slice 11 _ c _ (k0_off2_eq c) _)) $$ [H]
  · isplitr; · iexact Hp
    iexact H
  iintro H
  iapply Hk
  isplitl [Hi]; · iexact Hi
  iexact H

/-- Chunk 2 is computed and sent. -/
theorem part4_run {α : Type} {Kt : α → sProp 𝕄} (v93 : BitVec 32) {k : _ → Prog (TpuEff nD τ sig (Elt F) Λ₀ .tc) α} :
    iprop(pers I K c ∗ iPts I c ∗ openSt (F := F) c 2)
      ⊢ iprop((iprop(iPts I c ∗ openSt (F := F) c 3) -∗ run c (k ⟨Scalar.remsi (Scalar.addi (Scalar.addi (myWord c) 1#32) 3#32) 8#32, k0_pay5 (base c) rowNos (col (I.idx c) 3)⟩) Kt)
          -∗ run c (k0_part4 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (base c) (k0_pay1 (I.tab c)) rowNos v93 >>= k) Kt) := by
  simp only [k0_part4_eq_skeleton]
  unfold k0_part4_skel
  simp only [Prog.lift, Prog.bind_op, Prog.bind_ret, Prog.pure_eq_ret]
  iintro ⟨#Hp, Hi, H⟩ Hk
  iapply (i_load I c 2) $$ Hi
  iintro Hi
  iapply (open_load c 2 (by decide) (k0_off1_eq c 2)) $$ H
  iintro %v H
  iapply (open_store I c 2 (by decide) (k0_off1_eq c 2) (chunk_eq I c 2)) $$ H
  iintro H
  iapply (fill_send I K c 2 (by decide) (around_mk c 2 3 rfl (k0_dev10_lt c) (k0_dev10_eq c)) (k0_off4_eq c 2) (k0_off3_eq c)
    (sem_slice 3 _ (2 : Fin 8) _ rfl _) (sem_slice 11 _ c _ (k0_off2_eq c) _)) $$ [H]
  · isplitr; · iexact Hp
    iexact H
  iintro H
  iapply (i_load I c 3) $$ Hi
  iintro Hi
  iapply Hk
  isplitl [Hi]; · iexact Hi
  iexact H

/-- Chunk 3 is computed and sent, chunk 4 computed. -/
theorem part5_run {α : Type} {Kt : α → sProp 𝕄} (v123 : BitVec 32) {k : _ → Prog (TpuEff nD τ sig (Elt F) Λ₀ .tc) α} :
    iprop(pers I K c ∗ iPts I c ∗ openSt (F := F) c 3)
      ⊢ iprop((iprop(iPts I c ∗ filledSt I c 4) -∗ run c (k ⟨⟩) Kt)
          -∗ run c (k0_part5 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (base c) (k0_pay1 (I.tab c)) rowNos v123 (k0_pay5 (base c) rowNos (col (I.idx c) 3)) >>= k) Kt) := by
  simp only [k0_part5_eq_skeleton]
  unfold k0_part5_skel
  simp only [Prog.lift, Prog.bind_op, Prog.bind_ret, Prog.pure_eq_ret]
  iintro ⟨#Hp, Hi, H⟩ Hk
  iapply (open_load c 3 (by decide) (k0_off1_eq c 3)) $$ H
  iintro %v H
  iapply (open_store I c 3 (by decide) (k0_off1_eq c 3) (chunk_eq I c 3)) $$ H
  iintro H
  iapply (fill_send I K c 3 (by decide) (around_mk c 3 4 rfl (k0_dev11_lt c) (k0_dev11_eq c)) (k0_off4_eq c 3) (k0_off3_eq c)
    (sem_slice 3 _ (3 : Fin 8) _ rfl _) (sem_slice 11 _ c _ (k0_off2_eq c) _)) $$ [H]
  · isplitr; · iexact Hp
    iexact H
  iintro H
  iapply (i_load I c 4) $$ Hi
  iintro Hi
  iapply (open_load c 4 (by decide) (k0_off1_eq c 4)) $$ H
  iintro %v H
  iapply (open_store I c 4 (by decide) (k0_off1_eq c 4) (chunk_eq I c 4)) $$ H
  iintro H
  iapply Hk
  isplitl [Hi]; · iexact Hi
  iexact H

/-- Chunk 4 is sent, chunk 5 computed and sent. -/
theorem part6_run {α : Type} {Kt : α → sProp 𝕄} {k : _ → Prog (TpuEff nD τ sig (Elt F) Λ₀ .tc) α} :
    iprop(pers I K c ∗ iPts I c ∗ filledSt I c 4)
      ⊢ iprop((iprop(iPts I c ∗ openSt (F := F) c 6) -∗ run c (k (Scalar.addi (myWord c) 1#32)) Kt)
          -∗ run c (k0_part6 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (base c) (k0_pay1 (I.tab c)) rowNos >>= k) Kt) := by
  simp only [k0_part6_eq_skeleton]
  unfold k0_part6_skel
  simp only [Prog.lift, Prog.bind_op, Prog.bind_ret, Prog.pure_eq_ret]
  iintro ⟨#Hp, Hi, H⟩ Hk
  iapply (fill_send I K c 4 (by decide) (around_mk c 4 5 rfl (k0_dev12_lt c) (k0_dev12_eq c)) (k0_off4_eq c 4) (k0_off3_eq c)
    (sem_slice 3 _ (4 : Fin 8) _ rfl _) (sem_slice 11 _ c _ (k0_off2_eq c) _)) $$ [H]
  · isplitr; · iexact Hp
    iexact H
  iintro H
  iapply (i_load I c 5) $$ Hi
  iintro Hi
  iapply (open_load c 5 (by decide) (k0_off1_eq c 5)) $$ H
  iintro %v H
  iapply (open_store I c 5 (by decide) (k0_off1_eq c 5) (chunk_eq I c 5)) $$ H
  iintro H
  iapply (fill_send I K c 5 (by decide) (around_mk c 5 6 rfl (k0_dev13_lt c) (k0_dev13_eq c)) (k0_off4_eq c 5) (k0_off3_eq c)
    (sem_slice 3 _ (5 : Fin 8) _ rfl _) (sem_slice 11 _ c _ (k0_off2_eq c) _)) $$ [H]
  · isplitr; · iexact Hp
    iexact H
  iintro H
  iapply Hk
  isplitl [Hi]; · iexact Hi
  iexact H

/-- Chunk 6 is computed and sent. -/
theorem part7_run {α : Type} {Kt : α → sProp 𝕄} (v205 : BitVec 32) {k : _ → Prog (TpuEff nD τ sig (Elt F) Λ₀ .tc) α} :
    iprop(pers I K c ∗ iPts I c ∗ openSt (F := F) c 6)
      ⊢ iprop((iprop(iPts I c ∗ openSt (F := F) c 7) -∗ run c (k ⟨Scalar.remsi (Scalar.addi (Scalar.addi (myWord c) 1#32) 7#32) 8#32, k0_pay10 (base c) rowNos (col (I.idx c) 7)⟩) Kt)
          -∗ run c (k0_part7 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (base c) (k0_pay1 (I.tab c)) rowNos v205 >>= k) Kt) := by
  simp only [k0_part7_eq_skeleton]
  unfold k0_part7_skel
  simp only [Prog.lift, Prog.bind_op, Prog.bind_ret, Prog.pure_eq_ret]
  iintro ⟨#Hp, Hi, H⟩ Hk
  iapply (i_load I c 6) $$ Hi
  iintro Hi
  iapply (open_load c 6 (by decide) (k0_off1_eq c 6)) $$ H
  iintro %v H
  iapply (open_store I c 6 (by decide) (k0_off1_eq c 6) (chunk_eq I c 6)) $$ H
  iintro H
  iapply (fill_send I K c 6 (by decide) (around_mk c 6 7 rfl (k0_dev14_lt c) (k0_dev14_eq c)) (k0_off4_eq c 6) (k0_off3_eq c)
    (sem_slice 3 _ (6 : Fin 8) _ rfl _) (sem_slice 11 _ c _ (k0_off2_eq c) _)) $$ [H]
  · isplitr; · iexact Hp
    iexact H
  iintro H
  iapply (i_load I c 7) $$ Hi
  iintro Hi
  iapply Hk
  isplitl [Hi]; · iexact Hi
  iexact H

end Sends

end Cert.KernelIdeal.Own
-- ==== Proof.KernelIdeal.Arrivals.lean ====
/-
  The end of the first exchange: the device's own chunk, the waits, and what has then arrived.
-/
module

public import proofs.«01_k».proof.Proof.KernelIdeal.Sends

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Arrivals

variable (c : Dev nD)

/-- Every slot counts the same on a semaphore. -/
theorem slot_credit (m : Memref sig .tc .vmem S128x512 .bf16) : m.view.dmaCredit = N := rfl

/-- A wait that a device skips for itself, with the rest of the program after it on both branches. -/
theorem rs_either {α β : Type} {Kt : α → sProp 𝕄} (n : ℕ) (hn : n < 8) {v : BitVec 1} (hv : v = 1#1 ↔ (⟨n, hn⟩ : Fin 8) ≠ c)
    {sem : DmaSem sig} (hsem : sem = dsem 1 ⟨n, hn⟩) {s s' : Shape} {e e' : EltTy} {sp sp' : Space}
    {src : Memref sig .tc sp' s' e'} {dst : Memref sig .tc sp s e} (hN : dst.view.dmaCredit = N)
    {hsrc : src.view.WordExact} {hdst : dst.view.WordExact}
    {P : Prog (TpuEff nD τ sig (Elt F) Λ₀ .tc) β} {k : β → Prog (TpuEff nD τ sig (Elt F) Λ₀ .tc) α} :
    iprop(pers I K c ∗ rsSt I c n)
      ⊢ iprop((rsSt I c (n + 1) -∗ run c (P >>= k) Kt)
          -∗ run c ((if _ : v = 1#1 then .op (.waitDma2 sem src dst hsrc hdst) (fun _ => P) else P) >>= k) Kt) := by
  have X := rs_step I K c (Kt := Kt) n hn hv hsem (src := src) (dst := dst) hN (hsrc := hsrc) (hdst := hdst) (k := fun _ => P >>= k)
  refine X.trans (Entails.of_eq ?_)
  by_cases h : v = 1#1
  · simp only [dif_pos h, Prog.bind_op, Prog.bind_ret]
  · simp only [dif_neg h, Prog.bind_op, Prog.bind_ret]

/-- What the wait for device `s` takes. -/
def recvTok (s : Fin 8) : sProp 𝕄 :=
  iprop(atPos ER (rsC c s) 0 ∅ 0 ∗ (if s = c then iprop(emp) else cred (tallyAt (rsC c s) () N)))

/-- Among all devices, this one and the others. -/
theorem own_first {m : ℕ} (c : Fin m) (Φ : Fin m → sProp 𝕄) : bigSep Finset.univ Φ = iprop(Φ c ∗ bigSep (Finset.univ.erase c) Φ) :=
  bigSep_erase (Finset.mem_univ c)

/-- The device's own chunk in both slots, with the tokens, is what the waits start from. -/
theorem rsTodo_all : iprop(bigSep Finset.univ (recvTok (F := F) c) ∗ rsPay I c c) ⊢ bigSep Finset.univ (rsTodo I c) := by
  rw [own_first c (recvTok (F := F) c), own_first c (rsTodo I c),
    bigSep_congr (Φ := recvTok (F := F) c) (Ψ := rsTodo I c) (s := Finset.univ.erase c)
      (fun s hs => by unfold recvTok rsTodo; rw [if_neg (Finset.ne_of_mem_erase hs), if_neg (Finset.ne_of_mem_erase hs)])]
  unfold recvTok rsTodo
  rw [if_pos rfl, if_pos rfl]
  iintro ⟨⟨⟨Hat, -⟩, Hr⟩, Hp⟩
  isplitr [Hr]
  · isplitl [Hat]; · iexact Hat
    iexact Hp
  iexact Hr

set_option maxHeartbeats 4000000 in
/-- The device's own chunk, and the first six waits. -/
theorem part8_run {α : Type} {Kt : α → sProp 𝕄} (v235 : BitVec 32) {k : _ → Prog (TpuEff nD τ sig (Elt F) Λ₀ .tc) α} :
    iprop(pers I K c ∗ openSt (F := F) c 7 ∗ rAny (F := F) c c ∗ bigSep Finset.univ (recvTok (F := F) c))
      ⊢ iprop((iprop(done 7 (chunkDone (F := F) c) ∗ rsSt I c 6) -∗ run c (k (Scalar.cmpi .ne (myWord c) 6#32)) Kt)
          -∗ run c (k0_part8 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (k0_pay1 (I.tab c)) v235 (k0_pay10 (base c) rowNos (col (I.idx c) 7)) >>= k) Kt) := by
  simp only [k0_part8_eq_skeleton]
  unfold k0_part8_skel
  simp only [Prog.lift, Prog.bind_op, Prog.bind_ret, Prog.pure_eq_ret]
  iintro ⟨#Hp, H, Hr, Htok⟩ Hk
  iapply (open_load c 7 (by decide) (k0_off1_eq c 7)) $$ H
  iintro %v H
  iapply (open_store I c 7 (by decide) (k0_off1_eq c 7) (chunk_eq I c 7)) $$ H
  unfold filledSt
  rw [around_seven]
  iintro ⟨Hs, Hc, -⟩
  iapply (p_load c c (k0_off5_eq c)) $$ Hc
  iintro Hc
  iapply (r_load_any c c (k0_off5_eq c)) $$ Hr
  iintro %v Hr
  rw [pay12_eq]
  iapply (r_store c c (k0_off5_eq c)) $$ Hr
  iintro Hr
  unfold sendSt
  rw [show oRs c 7 = 0 from debt_full _, zero_add]
  icases Hs with ⟨HO, -, Hd⟩
  ihave H : rsSt I c 0 $$ [HO Htok Hr Hc]
  · unfold rsSt
    rw [rest_zero, done_zero]
    isplitl [HO]; · iexact HO
    isplitl
    · iapply (rsTodo_all I c)
      isplitl [Htok]; · iexact Htok
      unfold rsPay
      isplitl [Hr]; · iexact Hr
      iexact Hc
    iempintro
  iapply (rs_either I K c 0 (by decide) (cond_iff c 0) (sem_slice 11 _ (0 : Fin 8) _ rfl _) (slot_credit _)) $$ [H]
  · isplitr; · iexact Hp
    iexact H
  iintro H
  iapply (rs_either I K c 1 (by decide) (cond_iff c 1) (sem_slice 11 _ (1 : Fin 8) _ rfl _) (slot_credit _)) $$ [H]
  · isplitr; · iexact Hp
    iexact H
  iintro H
  iapply (rs_either I K c 2 (by decide) (cond_iff c 2) (sem_slice 11 _ (2 : Fin 8) _ rfl _) (slot_credit _)) $$ [H]
  · isplitr; · iexact Hp
    iexact H
  iintro H
  iapply (rs_either I K c 3 (by decide) (cond_iff c 3) (sem_slice 11 _ (3 : Fin 8) _ rfl _) (slot_credit _)) $$ [H]
  · isplitr; · iexact Hp
    iexact H
  iintro H
  iapply (rs_either I K c 4 (by decide) (cond_iff c 4) (sem_slice 11 _ (4 : Fin 8) _ rfl _) (slot_credit _)) $$ [H]
  · isplitr; · iexact Hp
    iexact H
  iintro H
  iapply (rs_either I K c 5 (by decide) (cond_iff c 5) (sem_slice 11 _ (5 : Fin 8) _ rfl _) (slot_credit _)) $$ [H]
  · isplitr; · iexact Hp
    iexact H
  iintro H
  rw [Prog.bind_ret]
  iapply Hk
  isplitl [Hd]; · iexact Hd
  iexact H

end Arrivals

end Cert.KernelIdeal.Own
-- ==== Proof.KernelIdeal.Sums.lean ====
/-
  The sum of the device's own block, from the chunks that have arrived.
-/
module

public import proofs.«01_k».proof.Proof.KernelIdeal.Arrivals

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Sums

variable (c : Dev nD)

/-- The chunks the device has received, its own among them. -/
def arrived : sProp 𝕄 := bigSep Finset.univ (fun s : Dev nD => (rPts c s fullShare (spread (part I s c)) : sProp 𝕄))
/-- The slots in which the peers had them, which they gave away with them. -/
def lent : sProp 𝕄 := bigSep Finset.univ (fun s : Dev nD => (pPts s c fullShare (spread (part I s c)) : sProp 𝕄))
/-- Cells of one array that have had all their rounds. -/
def spents (j : Fin 4) : sProp 𝕄 := bigSep Finset.univ (fun s : Fin 8 => spent I c (some (j, s)))

theorem rsDone_all : rsSt I c 8 ⊢ iprop(ow c (oAg c 0) ∗ arrived I c ∗ lent I c ∗ spents I c 1) := by
  unfold rsSt
  rw [rest_full, done_full]
  have e : rsDone I c = fun s => iprop((rPts c s fullShare (spread (part I s c)) ∗ pPts s c fullShare (spread (part I s c))) ∗ spent I c (some (1, s))) := by
    funext s; unfold rsDone rsPay; rfl
  rw [e, bigSep_sep', bigSep_sep']
  unfold arrived lent spents
  iintro ⟨HO, -, ⟨Ha, Hb⟩, Hc⟩
  isplitl [HO]; · iexact HO
  isplitl [Ha]; · iexact Ha
  isplitl [Hb]; · iexact Hb
  iexact Hc

theorem arrived_load {α : Type} {Kt : α → sProp 𝕄} (s : Dev nD) {off : Fin 3 → ℕ} {h : ∀ a, off a + S1x128x512.size a ≤ S8x128x512.size a} (e : off = ![s.val, 0, 0])
    {hl : (Memref.whole cc0_scratch1 : Memref sig .tc .vmem S8x128x512 .bf16).view.LoadsAt (Rect.unit (s := S8x128x512) off S1x128x512.size h).toLoadRect}
    {k : Vec F S1x128x512 .bf16 → Prog (TpuEff nD τ sig (Elt F) Λ₀ .tc) α} :
    arrived I c ⊢ iprop((arrived I c -∗ run c (k (part I s c)) Kt)
      -∗ run c (.op (.load (Memref.whole cc0_scratch1) (Rect.unit (s := S8x128x512) off S1x128x512.size h).toLoadRect hl) k) Kt) := by
  unfold arrived
  rw [own_first s (fun s : Dev nD => (rPts c s fullShare (spread (part I s c)) : sProp 𝕄))]
  iintro ⟨Hs, Hr⟩ Hk
  iapply (r_load c s e) $$ Hs
  iintro Hs
  iapply Hk
  isplitl [Hs]; · iexact Hs
  iexact Hr

/-- The positions of the cells the first sends count on. -/
def s1At : sProp 𝕄 := bigSep Finset.univ (fun t : Fin 7 => (atPos ER (s1C c t.castSucc) 0 ∅ 0 : sProp 𝕄))
/-- Every peer's last receive is at its round. -/
def agReached : sProp 𝕄 := bigSep Finset.univ (fun t : Fin 7 => (reached ER (agC (around c t.val) c) 0 : sProp 𝕄))

theorem s1_ready : iprop(s1At (F := F) c ∗ done 7 (chunkDone (F := F) c)) ⊢ iprop(bigSep Finset.univ (s1Todo (F := F) c) ∗ agReached (F := F) c) := by
  rw [done_full]
  have e : chunkDone (F := F) c = fun t => iprop(cred (tallyAt (s1C c t.castSucc) () N) ∗ reached ER (agC (around c t.val) c) 0) := by
    funext t; unfold chunkDone; rfl
  have e2 : s1Todo (F := F) c = fun t => iprop(atPos ER (s1C c t.castSucc) 0 ∅ 0 ∗ cred (tallyAt (s1C c t.castSucc) () N)) := by
    funext t; unfold s1Todo; rfl
  rw [e, e2, bigSep_sep', bigSep_sep']
  unfold s1At agReached
  iintro ⟨Ha, Hb, Hc⟩
  isplitr [Hc]
  · isplitl [Ha]; · iexact Ha
    iexact Hb
  iexact Hc

set_option maxHeartbeats 1000000 in
/-- The last two receives, and the first three sends waited for. -/
theorem part9_run {α : Type} {Kt : α → sProp 𝕄} {k : _ → Prog (TpuEff nD τ sig (Elt F) Λ₀ .tc) α} :
    iprop(pers I K c ∗ done 7 (chunkDone (F := F) c) ∗ rsSt I c 6 ∗ s1At (F := F) c)
      ⊢ iprop((iprop(arrived I c ∗ lent I c ∗ spents I c 1 ∗ agReached (F := F) c ∗ s1St I c 3) -∗ run c (k ⟨⟩) Kt)
          -∗ run c (k0_part9 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (Scalar.cmpi .ne (myWord c) 6#32) >>= k) Kt) := by
  simp only [k0_part9_eq_skeleton]
  unfold k0_part9_skel
  simp only [Prog.lift, Prog.bind_op, Prog.bind_ret, Prog.pure_eq_ret]
  iintro ⟨#Hp, Hd, H, Hat⟩ Hk
  iapply (rs_either I K c 6 (by decide) (cond_iff c 6) (sem_slice 11 _ (6 : Fin 8) _ rfl _) (slot_credit _)) $$ [H]
  · isplitr; · iexact Hp
    iexact H
  iintro H
  iapply (rs_either I K c 7 (by decide) (cond_iff c 7) (sem_slice 11 _ (7 : Fin 8) _ rfl _) (slot_credit _)) $$ [H]
  · isplitr; · iexact Hp
    iexact H
  iintro H
  simp only [Prog.bind_op, Prog.bind_ret]
  ihave H := (rsDone_all I c) $$ H
  icases H with ⟨HO, Ha, Hl, Hsp⟩
  ihave Hs := (s1_ready (F := F) c) $$ [Hat Hd]
  · isplitl [Hat]; · iexact Hat
    iexact Hd
  icases Hs with ⟨Hs, Hag⟩
  ihave Hs : s1St I c 0 $$ [HO Hs]
  · unfold s1St
    rw [rest_zero, done_zero]
    isplitl [HO]; · iexact HO
    isplitl [Hs]; · iexact Hs
    iempintro
  iapply (s1_step I K c 0 (by decide) (sem_slice 3 _ (0 : Fin 8) _ rfl _) (slot_credit _)) $$ [Hs]
  · isplitr; · iexact Hp
    iexact Hs
  iintro Hs
  iapply (s1_step I K c 1 (by decide) (sem_slice 3 _ (1 : Fin 8) _ rfl _) (slot_credit _)) $$ [Hs]
  · isplitr; · iexact Hp
    iexact Hs
  iintro Hs
  iapply (s1_step I K c 2 (by decide) (sem_slice 3 _ (2 : Fin 8) _ rfl _) (slot_credit _)) $$ [Hs]
  · isplitr; · iexact Hp
    iexact Hs
  iintro Hs
  iapply Hk
  isplitl [Ha]; · iexact Ha
  isplitl [Hl]; · iexact Hl
  isplitl [Hsp]; · iexact Hsp
  isplitl [Hag]; · iexact Hag
  iexact Hs

/-- The other sends waited for, and the first three chunks read. -/
theorem part10_run {α : Type} {Kt : α → sProp 𝕄} {k : _ → Prog (TpuEff nD τ sig (Elt F) Λ₀ .tc) α} :
    iprop(pers I K c ∗ s1St I c 3 ∗ arrived I c)
      ⊢ iprop((iprop(s1St I c 7 ∗ arrived I c) -∗ run c (k ⟨k0_pay13 (part I 0 c) (part I 1 c), k0_pay14 (part I 2 c)⟩) Kt)
          -∗ run c (k0_part10 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c >>= k) Kt) := by
  simp only [k0_part10_eq_skeleton]
  unfold k0_part10_skel
  simp only [Prog.lift, Prog.bind_op, Prog.bind_ret, Prog.pure_eq_ret]
  iintro ⟨#Hp, Hs, Hr⟩ Hk
  iapply (s1_step I K c 3 (by decide) (sem_slice 3 _ (3 : Fin 8) _ rfl _) (slot_credit _)) $$ [Hs]
  · isplitr; · iexact Hp
    iexact Hs
  iintro Hs
  iapply (s1_step I K c 4 (by decide) (sem_slice 3 _ (4 : Fin 8) _ rfl _) (slot_credit _)) $$ [Hs]
  · isplitr; · iexact Hp
    iexact Hs
  iintro Hs
  iapply (s1_step I K c 5 (by decide) (sem_slice 3 _ (5 : Fin 8) _ rfl _) (slot_credit _)) $$ [Hs]
  · isplitr; · iexact Hp
    iexact Hs
  iintro Hs
  iapply (s1_step I K c 6 (by decide) (sem_slice 3 _ (6 : Fin 8) _ rfl _) (slot_credit _)) $$ [Hs]
  · isplitr; · iexact Hp
    iexact Hs
  iintro Hs
  iapply (arrived_load I c 0 rfl) $$ Hr
  iintro Hr
  iapply (arrived_load I c 1 rfl) $$ Hr
  iintro Hr
  iapply (arrived_load I c 2 rfl) $$ Hr
  iintro Hr
  iapply Hk
  isplitl [Hs]; · iexact Hs
  iexact Hr

/-- The other chunks read, and their sum written to the result and to the slot it is sent from. -/
theorem part11_run {α : Type} {Kt : α → sProp 𝕄} {k : _ → Prog (TpuEff nD τ sig (Elt F) Λ₀ .tc) α} :
    iprop(arrived I c ∗ outW I c ∅ ∗ pPts c c fullShare (spread (part I c c)))
      ⊢ iprop((iprop(arrived I c ∗ outW I c (insert c ∅) ∗ pPts c c fullShare (spread (accB I c)))
            -∗ run c (k ⟨Scalar.muli (Scalar.remsi (Scalar.addi (Scalar.addi (myWord c) 1#32) 0#32) 8#32) 1#32, 0#32⟩) Kt)
          -∗ run c (k0_part11 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (k0_pay13 (part I 0 c) (part I 1 c)) (k0_pay14 (part I 2 c)) >>= k) Kt) := by
  simp only [k0_part11_eq_skeleton]
  unfold k0_part11_skel
  simp only [Prog.lift, Prog.bind_op, Prog.bind_ret, Prog.pure_eq_ret]
  iintro ⟨Hr, Ho, Hc⟩ Hk
  iapply (arrived_load I c 3 rfl) $$ Hr
  iintro Hr
  iapply (arrived_load I c 4 rfl) $$ Hr
  iintro Hr
  iapply (arrived_load I c 5 rfl) $$ Hr
  iintro Hr
  iapply (arrived_load I c 6 rfl) $$ Hr
  iintro Hr
  iapply (arrived_load I c 7 rfl) $$ Hr
  iintro Hr
  iapply (out_load I c) $$ Ho
  iintro %v Ho
  iapply (out_store I c c (k0_off6_eq c) (by unfold outBlock; rw [if_pos rfl]; rfl)) $$ Ho
  iintro Ho
  iapply (p_load c c (k0_off5_eq c)) $$ Hc
  iintro Hc
  iapply (p_store c c (k0_off5_eq c)) $$ [Hc]
  · unfold pAny; iexists _; iexact Hc
  iintro Hc
  iapply Hk
  isplitl [Hr]; · iexact Hr
  isplitl [Ho]; · iexact Ho
  iexact Hc

end Sums

end Cert.KernelIdeal.Own
-- ==== Proof.KernelIdeal.Blocks.lean ====
/-
  The second exchange: the finished block goes to every peer, and theirs arrive.
-/
module

public import proofs.«01_k».proof.Proof.KernelIdeal.Sums

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Blocks

variable (c : Dev nD)

/-- What every device but this one has, listed from the next device on. -/
theorem others_eq (Φ : Dev nD → sProp 𝕄) : bigSep (Finset.univ.erase c) Φ = bigSep Finset.univ (fun t : Fin 7 => Φ (around c t.val)) := by
  rw [← map_peerEmb c, bigSep_map]; rfl

/-- The last of eight, and the first seven. -/
theorem last_first (Φ : Fin 8 → sProp 𝕄) : bigSep Finset.univ Φ = iprop(Φ 7 ∗ bigSep Finset.univ (fun t : Fin 7 => Φ t.castSucc)) := by
  rw [own_first 7 Φ, show (Finset.univ.erase 7 : Finset (Fin 8)) = Finset.univ.map Fin.castSuccEmb from by decide, bigSep_map]; rfl

/-- The seven tokens of each kind the second sends take. -/
def sendTok (t : Fin 7) : sProp 𝕄 := iprop(dutyTok ER (agC (around c t.val) c) 0 c ∗ dutyTok ER (s2C c t.castSucc) 0 c)

/-- The share of the finished block that stays. -/
def keptShare : sProp 𝕄 := pPts c c (ShareLeaves.leaf 3 fullShare 7) (spread (accB I c))

theorem shares_eq : pPts c c fullShare (spread (accB I c))
    = iprop(keptShare I c ∗ bigSep Finset.univ (fun t : Fin 7 => pPts c c (ShareLeaves.leaf 3 fullShare t.castSucc) (spread (accB I c)))) := by
  unfold keptShare pPts
  rw [ShareLeaves.pointsTo_leaves _ _ 3 fullShare]
  exact last_first _

theorem send2_ready : iprop(ow c (oAg c 0) ∗ agReached (F := F) c ∗ bigSep Finset.univ (sendTok (F := F) c)
      ∗ bigSep (Finset.univ.erase c) (fun s : Dev nD => (pPts s c fullShare (spread (part I s c)) : sProp 𝕄)) ∗ pPts c c fullShare (spread (accB I c)))
    ⊢ iprop(keptShare I c ∗ sendSt2 I c 0) := by
  unfold sendSt2
  rw [rest_zero, done_zero, shares_eq, others_eq]
  have e : blockTok I c = fun t => iprop(sendTok (F := F) c t ∗ (reached ER (agC (around c t.val) c) 0
      ∗ (pPts (around c t.val) c fullShare (spread (part I (around c t.val) c))
      ∗ pPts c c (ShareLeaves.leaf 3 fullShare t.castSucc) (spread (accB I c))))) := by
    funext t; unfold blockTok sendTok; exact equiv_iff.mp ⟨BI.sep_assoc', BI.sep_assoc⟩
  rw [e, bigSep_sep', bigSep_sep', bigSep_sep']
  unfold agReached
  iintro ⟨HO, Hr, Ht, Hp, Hk, Hs⟩
  isplitl [Hk]; · iexact Hk
  isplitl [HO]; · iexact HO
  isplitl
  · isplitl [Ht]; · iexact Ht
    isplitl [Hr]; · iexact Hr
    isplitl [Hp]; · iexact Hp
    iexact Hs
  iempintro

/-- The first two sends. -/
theorem part12_run {α : Type} {Kt : α → sProp 𝕄} (v366 c0 : BitVec 32) {k : _ → Prog (TpuEff nD τ sig (Elt F) Λ₀ .tc) α} :
    iprop(pers I K c ∗ sendSt2 I c 0)
      ⊢ iprop((sendSt2 I c 2 -∗ run c (k ⟨⟩) Kt)
          -∗ run c (k0_part12 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) v366 c0 >>= k) Kt) := by
  simp only [k0_part12_eq_skeleton]
  unfold k0_part12_skel
  simp only [Prog.lift, Prog.bind_op, Prog.bind_ret, Prog.pure_eq_ret]
  iintro ⟨#Hp, H⟩ Hk
  iapply (send2_step I K c 0 (by decide) (around_mk c 0 1 rfl (k0_dev15_lt c) (k0_dev15_eq c)) (k0_off3_eq c) (k0_off3_eq c)
    (sem_slice 19 _ (0 : Fin 8) _ rfl _) (sem_slice 27 _ c _ (k0_off2_eq c) _)) $$ [H]
  · isplitr; · iexact Hp
    iexact H
  iintro H
  iapply (send2_step I K c 1 (by decide) (around_mk c 1 2 rfl (k0_dev16_lt c) (k0_dev16_eq c)) (k0_off3_eq c) (k0_off3_eq c)
    (sem_slice 19 _ (1 : Fin 8) _ rfl _) (sem_slice 27 _ c _ (k0_off2_eq c) _)) $$ [H]
  · isplitr; · iexact Hp
    iexact H
  iintro H
  iapply Hk; iexact H

/-- The next three. -/
theorem part13_run {α : Type} {Kt : α → sProp 𝕄} {k : _ → Prog (TpuEff nD τ sig (Elt F) Λ₀ .tc) α} :
    iprop(pers I K c ∗ sendSt2 I c 2)
      ⊢ iprop((sendSt2 I c 5 -∗ run c (k ⟨Scalar.muli (Scalar.remsi (Scalar.addi (Scalar.addi (myWord c) 1#32) 5#32) 8#32) 1#32, 0#32⟩) Kt)
          -∗ run c (k0_part13 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) >>= k) Kt) := by
  simp only [k0_part13_eq_skeleton]
  unfold k0_part13_skel
  simp only [Prog.lift, Prog.bind_op, Prog.bind_ret, Prog.pure_eq_ret]
  iintro ⟨#Hp, H⟩ Hk
  iapply (send2_step I K c 2 (by decide) (around_mk c 2 3 rfl (k0_dev17_lt c) (k0_dev17_eq c)) (k0_off3_eq c) (k0_off3_eq c)
    (sem_slice 19 _ (2 : Fin 8) _ rfl _) (sem_slice 27 _ c _ (k0_off2_eq c) _)) $$ [H]
  · isplitr; · iexact Hp
    iexact H
  iintro H
  iapply (send2_step I K c 3 (by decide) (around_mk c 3 4 rfl (k0_dev18_lt c) (k0_dev18_eq c)) (k0_off3_eq c) (k0_off3_eq c)
    (sem_slice 19 _ (3 : Fin 8) _ rfl _) (sem_slice 27 _ c _ (k0_off2_eq c) _)) $$ [H]
  · isplitr; · iexact Hp
    iexact H
  iintro H
  iapply (send2_step I K c 4 (by decide) (around_mk c 4 5 rfl (k0_dev19_lt c) (k0_dev19_eq c)) (k0_off3_eq c) (k0_off3_eq c)
    (sem_slice 19 _ (4 : Fin 8) _ rfl _) (sem_slice 27 _ c _ (k0_off2_eq c) _)) $$ [H]
  · isplitr; · iexact Hp
    iexact H
  iintro H
  iapply Hk; iexact H

/-- A wait and a copy that a device skips for itself, with the rest of the program after it on both branches. -/
theorem ag_either {α β : Type} {Kt : α → sProp 𝕄} (n : ℕ) (hn : n < 8) {v : BitVec 1} (hv : v = 1#1 ↔ (⟨n, hn⟩ : Fin 8) ≠ c)
    {sem : DmaSem sig} (hsem : sem = dsem 3 ⟨n, hn⟩) {s s' : Shape} {e e' : EltTy} {sp sp' : Space}
    {src : Memref sig .tc sp' s' e'} {dst : Memref sig .tc sp s e} (hN : dst.view.dmaCredit = N)
    {hsrc : src.view.WordExact} {hdst : dst.view.WordExact}
    {off : Fin 3 → ℕ} {h : ∀ a, off a + S1x128x512.size a ≤ S8x128x512.size a} (e1 : off = ![n, 0, 0])
    {hl : (Memref.whole cc0_scratch0 : Memref sig .tc .vmem S8x128x512 .bf16).view.LoadsAt (Rect.unit (s := S8x128x512) off S1x128x512.size h).toLoadRect}
    {off2 : Fin 2 → ℕ} {h2 : ∀ a, off2 a + S128x512.size a ≤ S1024x512.size a} (e2 : off2 = ![128 * n, 0])
    {hl2 : (Memref.whole cc0_stg2_0 : Memref sig .tc .vmem S1024x512 .f32).view.LoadsAt (Rect.unit (s := S1024x512) off2 S128x512.size h2).toLoadRect}
    {pay : Vec F S1x128x512 .bf16 → Vec F S128x512 .f32} (hpay : pay = k0_pay17)
    {hx : ((Memref.whole cc0_stg2_0 : Memref sig .tc .vmem S1024x512 .f32).access (Rect.unit (s := S1024x512) off2 S128x512.size h2)).Stores Finset.univ}
    {hm : (Finset.univ : Finset (Rect.unit (s := S1024x512) off2 S128x512.size h2).shape.Idx) = Finset.univ ∨ ∀ a, (Rect.unit (s := S1024x512) off2 S128x512.size h2).stride a = 1}
    {P : Prog (TpuEff nD τ sig (Elt F) Λ₀ .tc) β} {k : β → Prog (TpuEff nD τ sig (Elt F) Λ₀ .tc) α} :
    iprop(pers I K c ∗ agSt I c n)
      ⊢ iprop((agSt I c (n + 1) -∗ run c (P >>= k) Kt)
          -∗ run c ((if _ : v = 1#1 then
              .op (.waitDma2 sem src dst hsrc hdst) (fun _ =>
                .op (.load (Memref.whole cc0_scratch0) (Rect.unit (s := S8x128x512) off S1x128x512.size h).toLoadRect hl) (fun x =>
                .op (.load (Memref.whole cc0_stg2_0) (Rect.unit (s := S1024x512) off2 S128x512.size h2).toLoadRect hl2) (fun _ =>
                .op (.store (Memref.whole cc0_stg2_0) (Rect.unit (s := S1024x512) off2 S128x512.size h2) (pay x) Finset.univ hx hm) (fun _ => P)))) else P) >>= k) Kt) := by
  have X := ag_step I K c (Kt := Kt) n hn hv hsem (src := src) (dst := dst) hN (hsrc := hsrc) (hdst := hdst) e1 (hl := hl) e2 (hl2 := hl2) hpay
    (hx := hx) (hm := hm) (k := fun _ => P >>= k)
  refine X.trans (Entails.of_eq ?_)
  by_cases h : v = 1#1
  · simp only [dif_pos h, Prog.bind_op, Prog.bind_ret]
  · simp only [dif_neg h, Prog.bind_op, Prog.bind_ret]

theorem s2_ready : iprop(bigSep Finset.univ (fun t : Fin 7 => (atPos ER (s2C c t.castSucc) 0 ∅ 0 : sProp 𝕄))
    ∗ bigSep Finset.univ (fun t : Fin 7 => (cred (tallyAt (s2C c t.castSucc) () N) : sProp 𝕄))) ⊢ bigSep Finset.univ (s2Todo (F := F) c) := by
  have e : s2Todo (F := F) c = fun t => iprop(atPos ER (s2C c t.castSucc) 0 ∅ 0 ∗ cred (tallyAt (s2C c t.castSucc) () N)) := by
    funext t; unfold s2Todo; rfl
  rw [e, bigSep_sep']

theorem ag_start : iprop(sendSt2 I c 7 ∗ outW I c (insert c ∅) ∗ bigSep Finset.univ (agTodo (F := F) c))
    ⊢ iprop(bigSep Finset.univ (fun t : Fin 7 => (cred (tallyAt (s2C c t.castSucc) () N) : sProp 𝕄)) ∗ agSt I c 0) := by
  unfold sendSt2 agSt
  rw [rest_full, done_full, rest_zero, done_zero, below_zero, show oAg c 7 = 0 from debt_full _]
  iintro ⟨⟨HO, -, Hc⟩, Ho, Ht⟩
  isplitl [Hc]; · iexact Hc
  isplitl [HO]; · iexact HO
  isplitl [Ho]; · iexact Ho
  isplitl [Ht]; · iexact Ht
  iempintro

set_option maxHeartbeats 4000000 in
/-- The last two sends, and the first three blocks received. -/
theorem part14_run {α : Type} {Kt : α → sProp 𝕄} (v431 c0 : BitVec 32) {k : _ → Prog (TpuEff nD τ sig (Elt F) Λ₀ .tc) α} :
    iprop(pers I K c ∗ sendSt2 I c 5 ∗ outW I c (insert c ∅) ∗ bigSep Finset.univ (agTodo (F := F) c))
      ⊢ iprop((iprop(bigSep Finset.univ (fun t : Fin 7 => (cred (tallyAt (s2C c t.castSucc) () N) : sProp 𝕄)) ∗ agSt I c 3)
            -∗ run c (k ⟨Scalar.extui (Scalar.cmpi .ne (myWord c) 3#32), 0#32⟩) Kt)
          -∗ run c (k0_part14 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) v431 c0 >>= k) Kt) := by
  simp only [k0_part14_eq_skeleton]
  unfold k0_part14_skel
  simp only [Prog.lift, Prog.bind_op, Prog.bind_ret, Prog.pure_eq_ret]
  iintro ⟨#Hp, H, Ho, Ht⟩ Hk
  iapply (send2_step I K c 5 (by decide) (around_mk c 5 6 rfl (k0_dev20_lt c) (k0_dev20_eq c)) (k0_off3_eq c) (k0_off3_eq c)
    (sem_slice 19 _ (5 : Fin 8) _ rfl _) (sem_slice 27 _ c _ (k0_off2_eq c) _)) $$ [H]
  · isplitr; · iexact Hp
    iexact H
  iintro H
  iapply (send2_step I K c 6 (by decide) (around_mk c 6 7 rfl (k0_dev21_lt c) (k0_dev21_eq c)) (k0_off3_eq c) (k0_off3_eq c)
    (sem_slice 19 _ (6 : Fin 8) _ rfl _) (sem_slice 27 _ c _ (k0_off2_eq c) _)) $$ [H]
  · isplitr; · iexact Hp
    iexact H
  iintro H
  ihave H := (ag_start I c) $$ [H Ho Ht]
  · isplitl [H]; · iexact H
    isplitl [Ho]; · iexact Ho
    iexact Ht
  icases H with ⟨Hc, H⟩
  iapply (ag_either I K c 0 (by decide) (cond_iff c 0) (sem_slice 27 _ (0 : Fin 8) _ rfl _) (slot_credit _) rfl
    (show (![0, 0] : Fin 2 → ℕ) = ![128 * 0, 0] from rfl) (show (k0_pay17 (F := F)) = k0_pay17 from rfl)) $$ [H]
  · isplitr; · iexact Hp
    iexact H
  iintro H
  iapply (ag_either I K c 1 (by decide) (cond_iff c 1) (sem_slice 27 _ (1 : Fin 8) _ rfl _) (slot_credit _) rfl
    (show (![128, 0] : Fin 2 → ℕ) = ![128 * 1, 0] from rfl) (show (k0_pay18 (F := F)) = k0_pay17 from rfl)) $$ [H]
  · isplitr; · iexact Hp
    iexact H
  iintro H
  iapply (ag_either I K c 2 (by decide) (cond_iff c 2) (sem_slice 27 _ (2 : Fin 8) _ rfl _) (slot_credit _) rfl
    (show (![256, 0] : Fin 2 → ℕ) = ![128 * 2, 0] from rfl) (show (k0_pay19 (F := F)) = k0_pay17 from rfl)) $$ [H]
  · isplitr; · iexact Hp
    iexact H
  iintro H
  rw [Prog.bind_ret]
  iapply Hk
  isplitl [Hc]; · iexact Hc
  iexact H

theorem agSt_end : agSt I c 8 ⊢ iprop(ow c 0 ∗ outW I c Finset.univ ∗ bigSep Finset.univ (agDone I c)) := by
  unfold agSt
  rw [rest_full, done_full, below_full, Finset.insert_eq_of_mem (Finset.mem_univ c)]
  iintro ⟨HO, Ho, -, Hd⟩
  isplitl [HO]; · iexact HO
  isplitl [Ho]; · iexact Ho
  iexact Hd

set_option maxHeartbeats 8000000 in
/-- The other blocks received, and the first two sends waited for. -/
theorem part15_run {α : Type} {Kt : α → sProp 𝕄} {k : _ → Prog (TpuEff nD τ sig (Elt F) Λ₀ .tc) α} :
    iprop(pers I K c ∗ agSt I c 3 ∗ bigSep Finset.univ (s2Todo (F := F) c))
      ⊢ iprop((iprop(outW I c Finset.univ ∗ bigSep Finset.univ (agDone I c) ∗ s2St I c 2) -∗ run c (k ⟨⟩) Kt)
          -∗ run c (k0_part15 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c (myWord c) (Scalar.extui (Scalar.cmpi .ne (myWord c) 3#32)) 0#32 >>= k) Kt) := by
  simp only [k0_part15_eq_skeleton]
  unfold k0_part15_skel
  simp only [Prog.lift, Prog.bind_op, Prog.bind_ret, Prog.pure_eq_ret]
  iintro ⟨#Hp, H, Hs⟩ Hk
  iapply (ag_either I K c 3 (by decide) (cond_iff c 3) (sem_slice 27 _ (3 : Fin 8) _ rfl _) (slot_credit _) rfl
    (show (![384, 0] : Fin 2 → ℕ) = ![128 * 3, 0] from rfl) (show (k0_pay20 (F := F)) = k0_pay17 from rfl)) $$ [H]
  · isplitr; · iexact Hp
    iexact H
  iintro H
  iapply (ag_either I K c 4 (by decide) (cond_iff c 4) (sem_slice 27 _ (4 : Fin 8) _ rfl _) (slot_credit _) rfl
    (show (![512, 0] : Fin 2 → ℕ) = ![128 * 4, 0] from rfl) (show (k0_pay21 (F := F)) = k0_pay17 from rfl)) $$ [H]
  · isplitr; · iexact Hp
    iexact H
  iintro H
  iapply (ag_either I K c 5 (by decide) (cond_iff c 5) (sem_slice 27 _ (5 : Fin 8) _ rfl _) (slot_credit _) rfl
    (show (![640, 0] : Fin 2 → ℕ) = ![128 * 5, 0] from rfl) (show (k0_pay22 (F := F)) = k0_pay17 from rfl)) $$ [H]
  · isplitr; · iexact Hp
    iexact H
  iintro H
  iapply (ag_either I K c 6 (by decide) (cond_iff c 6) (sem_slice 27 _ (6 : Fin 8) _ rfl _) (slot_credit _) rfl
    (show (![768, 0] : Fin 2 → ℕ) = ![128 * 6, 0] from rfl) (show (k0_pay23 (F := F)) = k0_pay17 from rfl)) $$ [H]
  · isplitr; · iexact Hp
    iexact H
  iintro H
  iapply (ag_either I K c 7 (by decide) (cond_iff c 7) (sem_slice 27 _ (7 : Fin 8) _ rfl _) (slot_credit _) rfl
    (show (![896, 0] : Fin 2 → ℕ) = ![128 * 7, 0] from rfl) (show (k0_pay24 (F := F)) = k0_pay17 from rfl)) $$ [H]
  · isplitr; · iexact Hp
    iexact H
  iintro H
  simp only [Prog.bind_op, Prog.bind_ret]
  ihave H := (agSt_end I c) $$ H
  icases H with ⟨HO, Ho, Hd⟩
  ihave Hs : s2St I c 0 $$ [HO Hs]
  · unfold s2St
    rw [rest_zero, done_zero]
    isplitl [HO]; · iexact HO
    isplitl [Hs]; · iexact Hs
    iempintro
  iapply (s2_step I K c 0 (by decide) (sem_slice 19 _ (0 : Fin 8) _ rfl _) (slot_credit _)) $$ [Hs]
  · isplitr; · iexact Hp
    iexact Hs
  iintro Hs
  iapply (s2_step I K c 1 (by decide) (sem_slice 19 _ (1 : Fin 8) _ rfl _) (slot_credit _)) $$ [Hs]
  · isplitr; · iexact Hp
    iexact Hs
  iintro Hs
  iapply Hk
  isplitl [Ho]; · iexact Ho
  isplitl [Hd]; · iexact Hd
  iexact Hs

end Blocks

end Cert.KernelIdeal.Own
-- ==== Proof.KernelIdeal.Ending.lean ====
/-
  What the body leaves: cells closed, slots joined; and how the buffers are split at its start.
-/
module

public import proofs.«01_k».proof.Proof.KernelIdeal.Blocks

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Ending

variable (c : Dev nD)

/-! ## The cells -/

/-- The counters of the device's own cells, at zero. -/
def ownZero : sProp 𝕄 := bigSep Finset.univ (fun x : Fin 4 × Fin 8 => semVal (cell c (some x)) 0)

/-- Spent cells of any family are closed together. -/
theorem spents_close (S : Finset (Fin 4 × Fin 8)) :
    iprop(pers I K c ∗ bigSep S (fun x => spent I c (some x))) ⊢ (|={Set.univ}=> bigSep S (fun x => semVal (cell c (some x)) 0) : sProp 𝕄) := by
  refine (bigSep_with_persistent (R := pers I K c) (Φ := fun x => spent I c (some x))
    (Ψ := fun x => iprop(|={Set.univ}=> semVal (cell c (some x)) 0)) fun x _ => spent_close I K c (some x)).trans ?_
  exact bigSep_fupd _ _

/-- The four arrays of cells, each spent, are all of the device's own cells. -/
theorem spents_all : iprop(spents I c 0 ∗ spents I c 1 ∗ spents I c 2 ∗ spents I c 3)
    ⊢ bigSep Finset.univ (fun x : Fin 4 × Fin 8 => spent I c (some x)) := by
  rw [bigSep_univ_prod, show (Finset.univ : Finset (Fin 4)) = {0, 1, 2, 3} from rfl,
    bigSep_insert (by decide), bigSep_insert (by decide), bigSep_insert (by decide), bigSep_singleton]
  exact Entails.of_eq rfl

/-- An array of seven used cells and an idle one. -/
theorem spents_seven (j : Fin 4) (h : dutyOf c (some (some (j, 7))) = ∅) :
    iprop(atPos ER (cell c (some (j, 7))) 0 ∅ 0 ∗ bigSep Finset.univ (fun t : Fin 7 => spent I c (some (j, t.castSucc)))) ⊢ spents I c j := by
  unfold spents
  rw [last_first (fun s : Fin 8 => spent I c (some (j, s)))]
  iintro ⟨H, Hs⟩
  isplitl [H]; · iapply (spent_idle I c (j, 7) h); iexact H
  iexact Hs

/-! ## The slots -/

theorem slots_cover (i : S8x128x512.Idx) : ∃ k : Fin 8, i ∈ slotSet k := ⟨⟨(i 0).val, (i 0).isLt⟩, mem_slotSet.mpr rfl⟩

/-- A whole buffer is its parts, for any partition of it. -/
theorem whole_split {ℓ : Loc nD τ sig} (f : Buf (Elt F) ℓ) (S : Fin 8 → Finset (Idx ℓ)) (hd : ∀ t t', t ≠ t' → Disjoint (S t) (S t')) (hc : ∀ i, ∃ k, i ∈ S k) :
    (ℓ ↦{fullShare} f : sProp 𝕄) = bigSep Finset.univ (fun k : Fin 8 => (ℓ ↦[S k]{fullShare} f : sProp 𝕄)) := by
  rw [← pointsTo_biUnion Finset.univ S fun t _ t' _ => hd t t', show Finset.univ.biUnion S = Finset.univ from ?_]
  ext i
  simpa using hc i

/-- The parts of a buffer, each with contents of its own, are the buffer at some contents. -/
theorem whole_join {ℓ : Loc nD τ sig} (fs : Fin 8 → Buf (Elt F) ℓ) (S : Fin 8 → Finset (Idx ℓ)) (hd : ∀ t t', t ≠ t' → Disjoint (S t) (S t')) (hc : ∀ i, ∃ k, i ∈ S k) :
    bigSep Finset.univ (fun k : Fin 8 => (ℓ ↦[S k]{fullShare} fs k : sProp 𝕄)) ⊢ iprop(∃ f : Buf (Elt F) ℓ, ℓ ↦{fullShare} f) := by
  have h := pointsTo_biUnion_join (Ix := Unit) (Name := ℕ) (U := UU) (Lvl := ℕ) (q := fullShare) Finset.univ S fs (fs 0) fun t _ t' _ => hd t t'
  rw [show Finset.univ.biUnion S = Finset.univ from by ext i; simpa using hc i] at h
  refine BIBase.Entails.trans h ?_
  iintro ⟨%g, -, H⟩
  iexists g
  iexact H

/-- The buffer of chunks to send is its eight slots. -/
theorem p_split (f : S8x128x512.Idx → Elt F .bf16) :
    (((c : Thread nD τ).loc cc0_scratch0) ↦{fullShare} f : sProp 𝕄) = bigSep Finset.univ (fun k : Fin 8 => pPts c k fullShare f) := by
  unfold pPts
  exact whole_split (ℓ := (c : Thread nD τ).loc cc0_scratch0) f (fun k => slotSet k) (fun _ _ h => slotSet_disjoint h) slots_cover

/-- The buffer of chunks received is its eight slots. -/
theorem r_split (f : S8x128x512.Idx → Elt F .bf16) :
    (((c : Thread nD τ).loc cc0_scratch1) ↦{fullShare} f : sProp 𝕄) = bigSep Finset.univ (fun k : Fin 8 => rPts c k fullShare f) := by
  unfold rPts
  exact whole_split (ℓ := (c : Thread nD τ).loc cc0_scratch1) f (fun k => slotSet k) (fun _ _ h => slotSet_disjoint h) slots_cover

theorem p_join (fs : Fin 8 → S8x128x512.Idx → Elt F .bf16) :
    bigSep Finset.univ (fun k : Fin 8 => (pPts c k fullShare (fs k) : sProp 𝕄)) ⊢ iprop(∃ f : Buf (Elt F) ((c : Thread nD τ).loc cc0_scratch0), ((c : Thread nD τ).loc cc0_scratch0) ↦{fullShare} f) := by
  unfold pPts
  exact whole_join (ℓ := (c : Thread nD τ).loc cc0_scratch0) (fun k => fs k) (fun k => slotSet k) (fun _ _ h => slotSet_disjoint h) slots_cover

theorem r_join (fs : Fin 8 → S8x128x512.Idx → Elt F .bf16) :
    bigSep Finset.univ (fun k : Fin 8 => (rPts c k fullShare (fs k) : sProp 𝕄)) ⊢ iprop(∃ f : Buf (Elt F) ((c : Thread nD τ).loc cc0_scratch1), ((c : Thread nD τ).loc cc0_scratch1) ↦{fullShare} f) := by
  unfold rPts
  exact whole_join (ℓ := (c : Thread nD τ).loc cc0_scratch1) (fun k => fs k) (fun k => slotSet k) (fun _ _ h => slotSet_disjoint h) slots_cover

theorem p_any (k : Fin 8) (f : S8x128x512.Idx → Elt F .bf16) : pPts c k fullShare f ⊢ pAny (F := F) c k := by
  unfold pAny
  iintro H
  iexists f
  iexact H
theorem r_any (k : Fin 8) (f : S8x128x512.Idx → Elt F .bf16) : rPts c k fullShare f ⊢ iprop(∃ f, rPts (F := F) c k fullShare f) := by
  iintro H
  iexists f
  iexact H

/-- At the start: the slots in the order the chunks are made. -/
theorem p_open (f : S8x128x512.Idx → Elt F .bf16) :
    (((c : Thread nD τ).loc cc0_scratch0) ↦{fullShare} f : sProp 𝕄) ⊢ rest 0 (fun t : Fin 8 => pAny (F := F) c (around c t.val)) := by
  rw [rest_zero, p_split]
  have h : bigSep Finset.univ (fun k : Fin 8 => (pPts c k fullShare f : sProp 𝕄)) = bigSep Finset.univ (fun t : Fin 8 => (pPts c (around c t.val) fullShare f : sProp 𝕄)) := by
    rw [show (Finset.univ : Finset (Fin 8)) = Finset.univ.map (aroundEmb c) from (map_aroundEmb c).symm, bigSep_map, map_aroundEmb]; rfl
  rw [h]
  exact bigSep_mono fun t _ => p_any c _ f

/-- At the start: the device's own slot for arrivals, and those it hands to its peers. -/
theorem r_open (f : S8x128x512.Idx → Elt F .bf16) :
    (((c : Thread nD τ).loc cc0_scratch1) ↦{fullShare} f : sProp 𝕄)
      ⊢ iprop(rAny (F := F) c c ∗ rest 0 (fun t : Fin 7 => iprop(∃ f, rPts (F := F) c (around c t.val) fullShare f))) := by
  rw [rest_zero, r_split, own_first c (fun k : Fin 8 => rPts c k fullShare f), others_eq]
  iintro ⟨H, Hs⟩
  isplitl [H]; · unfold rAny; iexists f; iexact H
  iapply (show (bigSep Finset.univ (fun t : Fin 7 => rPts c (around c t.val) fullShare f) : sProp 𝕄)
    ⊢ bigSep Finset.univ (fun t : Fin 7 => iprop(∃ f, rPts (F := F) c (around c t.val) fullShare f)) from bigSep_mono fun t _ => r_any c _ f)
  iexact Hs

/-! ## What the last waits leave -/

/-- The last receives: the peers' blocks, and the spent cells. -/
theorem agDone_all : bigSep Finset.univ (agDone I c)
    ⊢ iprop(bigSep (Finset.univ.erase c) (fun s : Dev nD => (pPts c s fullShare (spread (accB I s)) : sProp 𝕄)) ∗ spents I c 3) := by
  have e : agDone I c = fun s => iprop((if s = c then iprop(emp) else agPay I c s) ∗ spent I c (some (3, s))) := by
    funext s; unfold agDone; rfl
  rw [e, bigSep_sep', own_first c (fun s : Fin 8 => (if s = c then iprop(emp) else agPay I c s : sProp 𝕄))]
  unfold spents
  iintro ⟨⟨-, H⟩, Hs⟩
  isplitl [H]
  · iapply (Entails.of_eq (bigSep_congr (s := Finset.univ.erase c) (Φ := fun s : Fin 8 => (if s = c then iprop(emp) else agPay I c s : sProp 𝕄))
      (Ψ := fun s : Dev nD => (pPts c s fullShare (spread (accB I s)) : sProp 𝕄))
      fun s hs => by rw [if_neg (Finset.ne_of_mem_erase hs)]; unfold agPay; rfl))
    iexact H
  iexact Hs

/-- The last sends: the shares of the block sent, and the spent cells. -/
theorem s2Done_all : s2St I c 7 ⊢ iprop(ow c 0
    ∗ bigSep Finset.univ (fun t : Fin 7 => pPts c c (ShareLeaves.leaf 3 fullShare t.castSucc) (spread (accB I c)))
    ∗ bigSep Finset.univ (fun t : Fin 7 => spent I c (some (2, t.castSucc)))) := by
  unfold s2St
  rw [rest_full, done_full]
  have e : s2Done I c = fun t => iprop(pPts c c (ShareLeaves.leaf 3 fullShare t.castSucc) (spread (accB I c)) ∗ spent I c (some (2, t.castSucc))) := by
    funext t; unfold s2Done s2Pay; rfl
  rw [e, bigSep_sep']
  iintro ⟨HO, -, H, Hs⟩
  isplitl [HO]; · iexact HO
  isplitl [H]; · iexact H
  iexact Hs

/-- All slots of the buffer of chunks sent are the device's again. -/
theorem p_close : iprop(keptShare I c ∗ bigSep Finset.univ (fun t : Fin 7 => pPts c c (ShareLeaves.leaf 3 fullShare t.castSucc) (spread (accB I c)))
      ∗ bigSep (Finset.univ.erase c) (fun s : Dev nD => (pPts c s fullShare (spread (accB I s)) : sProp 𝕄)))
    ⊢ iprop(∃ f : Buf (Elt F) ((c : Thread nD τ).loc cc0_scratch0), ((c : Thread nD τ).loc cc0_scratch0) ↦{fullShare} f) := by
  refine BIBase.Entails.trans ?_ (p_join c (fun s => spread (accB I s)))
  rw [own_first c (fun s : Fin 8 => (pPts c s fullShare (spread (accB I s)) : sProp 𝕄)), shares_eq]
  iintro ⟨Hk, Hs, Ho⟩
  isplitl [Hk Hs]
  · isplitl [Hk]; · iexact Hk
    iexact Hs
  iexact Ho

theorem r_close : arrived I c ⊢ iprop(∃ f : Buf (Elt F) ((c : Thread nD τ).loc cc0_scratch1), ((c : Thread nD τ).loc cc0_scratch1) ↦{fullShare} f) :=
  r_join c (fun s => spread (part I s c))

end Ending

end Cert.KernelIdeal.Own
-- ==== Proof.KernelIdeal.Body.lean ====
/-
  The whole body of the kernel on one device.
-/
module

public import proofs.«01_k».proof.Proof.KernelIdeal.Ending

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Body

variable (c : Dev nD)

/-- Of the slots lent, the one of the device's own part, and the peers'. -/
theorem lent_split : lent I c ⊢ iprop(pPts c c fullShare (spread (part I c c))
    ∗ bigSep (Finset.univ.erase c) (fun s : Dev nD => (pPts s c fullShare (spread (part I s c)) : sProp 𝕄))) := by
  unfold lent
  rw [own_first c (fun s : Dev nD => (pPts s c fullShare (spread (part I s c)) : sProp 𝕄))]

theorem s1_end : s1St I c 7 ⊢ iprop(ow c (oAg c 0) ∗ bigSep Finset.univ (fun t : Fin 7 => spent I c (some (0, t.castSucc)))) := by
  unfold s1St
  rw [rest_full, done_full]
  iintro ⟨HO, -, H⟩
  isplitl [HO]; · iexact HO
  iexact H

/-- What a device has when the body starts, the arrays split into their slots. -/
def bodyIn : sProp 𝕄 :=
  iprop(sigSt (F := F) c 0 ∗ atPos ER (barC c) 0 ∅ 0 ∗ cred (tallyAt (barC c) () 7)
    ∗ bigSep Finset.univ (startTok (F := F) c) ∗ rest 0 (fun t : Fin 8 => pAny (F := F) c (around c t.val)) ∗ iPts I c ∗ tPts I c
    ∗ rAny (F := F) c c ∗ bigSep Finset.univ (recvTok (F := F) c) ∗ s1At (F := F) c ∗ outW I c ∅
    ∗ bigSep Finset.univ (sendTok (F := F) c) ∗ bigSep Finset.univ (agTodo (F := F) c)
    ∗ bigSep Finset.univ (fun t : Fin 7 => (atPos ER (s2C c t.castSucc) 0 ∅ 0 : sProp 𝕄))
    ∗ atPos ER (s1C c 7) 0 ∅ 0 ∗ atPos ER (s2C c 7) 0 ∅ 0)

/-- What it has at the end: nothing owed, its result, the buffers whole, the counters at zero. -/
def bodyOut : sProp 𝕄 :=
  iprop(ow c 0 ∗ iPts I c ∗ tPts I c ∗ (((c : Thread nD τ).loc cc0_stg2_0) ↦{fullShare} outBuf I c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ownZero (F := F) c ∗ semVal (barC c) 0)

/-- Everything after the last wait: the cells are closed and the slots joined. -/
theorem body_end :
    iprop(pers I K c ∗ s2St I c 7 ∗ spent I c none ∗ iPts I c ∗ tPts I c ∗ arrived I c ∗ spents I c 1
      ∗ bigSep Finset.univ (fun t : Fin 7 => spent I c (some (0, t.castSucc))) ∗ keptShare I c ∗ outW I c Finset.univ ∗ bigSep Finset.univ (agDone I c)
      ∗ atPos ER (s1C c 7) 0 ∅ 0 ∗ atPos ER (s2C c 7) 0 ∅ 0)
      ⊢ (|={Set.univ}=> bodyOut I c : sProp 𝕄) := by
  iintro ⟨#Hp, H, Hsb, Hi, Ht, Harr, Hsp1, Hsp0, Hkept, Hout, Had, H0, H2⟩
  ihave H := (s2Done_all I c) $$ H
  icases H with ⟨HO, Hsh, Hsp2⟩
  ihave Had := (agDone_all I c) $$ Had
  icases Had with ⟨Hblk, Hsp3⟩
  ihave Hsp0 := (spents_seven I c 0 (by revert c; decide)) $$ [H0 Hsp0]
  · isplitl [H0]; · iexact H0
    iexact Hsp0
  ihave Hsp2 := (spents_seven I c 2 (by revert c; decide)) $$ [H2 Hsp2]
  · isplitl [H2]; · iexact H2
    iexact Hsp2
  ihave Hsp := (spents_all I c) $$ [Hsp0 Hsp1 Hsp2 Hsp3]
  · isplitl [Hsp0]; · iexact Hsp0
    isplitl [Hsp1]; · iexact Hsp1
    isplitl [Hsp2]; · iexact Hsp2
    iexact Hsp3
  imod (spents_close I K c Finset.univ) $$ [Hsp] with Hz
  · isplitr; · iexact Hp
    iexact Hsp
  imod (spent_close I K c none) $$ [Hsb] with Hb
  · isplitr; · iexact Hp
    iexact Hsb
  imodintro
  unfold bodyOut
  isplitl [HO]; · iexact HO
  isplitl [Hi]; · iexact Hi
  isplitl [Ht]; · iexact Ht
  isplitl [Hout]; · iapply (outW_univ I c); iexact Hout
  isplitl [Hkept Hsh Hblk]
  · iapply (p_close I c)
    isplitl [Hkept]; · iexact Hkept
    isplitl [Hsh]; · iexact Hsh
    iexact Hblk
  isplitl [Harr]; · iapply (r_close I c); iexact Harr
  isplitl [Hz]; · unfold ownZero; iexact Hz
  iexact Hb

set_option maxHeartbeats 4000000 in
/-- The body, from its start to its end. -/
theorem body_run {Kt : PUnit → sProp 𝕄} :
    iprop(pers I K c ∗ bodyIn I c)
      ⊢ iprop((bodyOut I c -∗ Kt ⟨⟩) -∗ run c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) Kt) := by
  simp only [cc0_body_eq_skeleton]
  unfold cc0_body_skel
  simp only [k0_part16_eq_skeleton]
  unfold k0_part16_skel
  simp only [bind_assoc]
  unfold bodyIn
  iintro ⟨#Hp, Hsig, Hbar, Hcr, Hst, Hpa, Hi, Ht, Hra, Hrv, Hs1, Hout, Hsd, Hag, Hs2, H0, H2⟩ Hk
  iapply (part1_run I K c) $$ [Hsig]
  · isplitr; · iexact Hp
    iexact Hsig
  iintro Hsig
  ihave Haft : afterSig I c $$ [Hsig Hbar Hcr Hst Hpa Hi Ht]
  · unfold afterSig
    isplitl [Hsig]; · iexact Hsig
    isplitl [Hbar]; · iexact Hbar
    isplitl [Hcr]; · iexact Hcr
    isplitl [Hst]; · iexact Hst
    isplitl [Hpa]; · iexact Hpa
    isplitl [Hi]; · iexact Hi
    iexact Ht
  iapply (part2_run I K c _ _) $$ [Haft]
  · isplitr; · iexact Hp
    iexact Haft
  iintro ⟨Hsb, Hi, Ht, H⟩
  iapply (part3_run I K c) $$ [Hi H]
  · isplitr; · iexact Hp
    isplitl [Hi]; · iexact Hi
    iexact H
  iintro ⟨Hi, H⟩
  iapply (part4_run I K c _) $$ [Hi H]
  · isplitr; · iexact Hp
    isplitl [Hi]; · iexact Hi
    iexact H
  iintro ⟨Hi, H⟩
  iapply (part5_run I K c _) $$ [Hi H]
  · isplitr; · iexact Hp
    isplitl [Hi]; · iexact Hi
    iexact H
  iintro ⟨Hi, H⟩
  iapply (part6_run I K c) $$ [Hi H]
  · isplitr; · iexact Hp
    isplitl [Hi]; · iexact Hi
    iexact H
  iintro ⟨Hi, H⟩
  iapply (part7_run I K c _) $$ [Hi H]
  · isplitr; · iexact Hp
    isplitl [Hi]; · iexact Hi
    iexact H
  iintro ⟨Hi, H⟩
  iapply (part8_run I K c _) $$ [H Hra Hrv]
  · isplitr; · iexact Hp
    isplitl [H]; · iexact H
    isplitl [Hra]; · iexact Hra
    iexact Hrv
  iintro ⟨Hd, H⟩
  iapply (part9_run I K c) $$ [Hd H Hs1]
  · isplitr; · iexact Hp
    isplitl [Hd]; · iexact Hd
    isplitl [H]; · iexact H
    iexact Hs1
  iintro ⟨Harr, Hlent, Hsp1, Hagr, H⟩
  iapply (part10_run I K c) $$ [H Harr]
  · isplitr; · iexact Hp
    isplitl [H]; · iexact H
    iexact Harr
  iintro ⟨H, Harr⟩
  ihave Hl := (lent_split I c) $$ Hlent
  icases Hl with ⟨Hown, Hlent⟩
  ihave H := (s1_end I c) $$ H
  icases H with ⟨HO, Hsp0⟩
  iapply (part11_run I c) $$ [Harr Hout Hown]
  · isplitl [Harr]; · iexact Harr
    isplitl [Hout]; · iexact Hout
    iexact Hown
  iintro ⟨Harr, Hout, Hown⟩
  ihave H := (send2_ready I c) $$ [HO Hagr Hsd Hlent Hown]
  · isplitl [HO]; · iexact HO
    isplitl [Hagr]; · iexact Hagr
    isplitl [Hsd]; · iexact Hsd
    isplitl [Hlent]; · iexact Hlent
    iexact Hown
  icases H with ⟨Hkept, H⟩
  iapply (part12_run I K c _ _) $$ [H]
  · isplitr; · iexact Hp
    iexact H
  iintro H
  iapply (part13_run I K c) $$ [H]
  · isplitr; · iexact Hp
    iexact H
  iintro H
  iapply (part14_run I K c _ _) $$ [H Hout Hag]
  · isplitr; · iexact Hp
    isplitl [H]; · iexact H
    isplitl [Hout]; · iexact Hout
    iexact Hag
  iintro ⟨Hcs, H⟩
  ihave Hs2 := (s2_ready c) $$ [Hs2 Hcs]
  · isplitl [Hs2]; · iexact Hs2
    iexact Hcs
  iapply (part15_run I K c) $$ [H Hs2]
  · isplitr; · iexact Hp
    isplitl [H]; · iexact H
    iexact Hs2
  iintro ⟨Hout, Had, H⟩
  simp only [Prog.lift, Prog.bind_op, Prog.bind_ret, Prog.pure_eq_ret]
  iapply (s2_step I K c 2 (by decide) (sem_slice 19 _ (2 : Fin 8) _ rfl _) (slot_credit _)) $$ [H]
  · isplitr; · iexact Hp
    iexact H
  iintro H
  iapply (s2_step I K c 3 (by decide) (sem_slice 19 _ (3 : Fin 8) _ rfl _) (slot_credit _)) $$ [H]
  · isplitr; · iexact Hp
    iexact H
  iintro H
  iapply (s2_step I K c 4 (by decide) (sem_slice 19 _ (4 : Fin 8) _ rfl _) (slot_credit _)) $$ [H]
  · isplitr; · iexact Hp
    iexact H
  iintro H
  iapply (s2_step I K c 5 (by decide) (sem_slice 19 _ (5 : Fin 8) _ rfl _) (slot_credit _)) $$ [H]
  · isplitr; · iexact Hp
    iexact H
  iintro H
  iapply (s2_step I K c 6 (by decide) (sem_slice 19 _ (6 : Fin 8) _ rfl _) (slot_credit _)) $$ [H]
  · isplitr; · iexact Hp
    iexact H
  iintro H
  imod (body_end I K c) $$ [H Hsb Hi Ht Harr Hsp1 Hsp0 Hkept Hout Had H0 H2] with H
  · isplitr; · iexact Hp
    isplitl [H]; · iexact H
    isplitl [Hsb]; · iexact Hsb
    isplitl [Hi]; · iexact Hi
    isplitl [Ht]; · iexact Ht
    isplitl [Harr]; · iexact Harr
    isplitl [Hsp1]; · iexact Hsp1
    isplitl [Hsp0]; · iexact Hsp0
    isplitl [Hkept]; · iexact Hkept
    isplitl [Hout]; · iexact Hout
    isplitl [Had]; · iexact Had
    isplitl [H0]; · iexact H0
    iexact H2
  rw [wp_ret]
  imodintro
  iapply Hk
  iexact H

end Body

end Cert.KernelIdeal.Own
-- ==== Proof.KernelIdeal.Start.lean ====
/-
  What a device starts its body with.
-/
module

public import proofs.«01_k».proof.Proof.KernelIdeal.Body

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Start

variable (c : Dev nD)

/-- The device's tokens for what it pays to one peer: a signal, a first send, a second send. -/
def payTok (t : Fin 7) : sProp 𝕄 :=
  iprop(dutyTok ER (barC (around c t.val)) 0 c ∗ startTok (F := F) c t ∗ sendTok (F := F) c t)

/-- What one device's peers owe it: a signal each, and in each phase one transfer each. -/
def dueCreds : sProp 𝕄 :=
  iprop(cred (tallyAt (barC c) () 7)
    ∗ bigSep Finset.univ (fun s : Dev nD => (if s = c then iprop(emp) else cred (tallyAt (rsC c s) () N) : sProp 𝕄))
    ∗ bigSep Finset.univ (fun s : Dev nD => (if s = c then iprop(emp) else cred (tallyAt (agC c s) () N) : sProp 𝕄)))

/-- The positions at the device's own counters of transfers. -/
def ownAt : sProp 𝕄 := bigSep Finset.univ (fun x : Fin 4 × Fin 8 => (atPos ER (cell c (some x)) 0 ∅ 0 : sProp 𝕄))

/-- The positions, kind by kind, the last counter of each sending kind apart. -/
theorem ownAt_split : ownAt (F := F) c ⊢ iprop((atPos ER (s1C c 7) 0 ∅ 0 ∗ s1At (F := F) c)
    ∗ bigSep Finset.univ (fun s : Dev nD => (atPos ER (rsC c s) 0 ∅ 0 : sProp 𝕄))
    ∗ (atPos ER (s2C c 7) 0 ∅ 0 ∗ bigSep Finset.univ (fun t : Fin 7 => (atPos ER (s2C c t.castSucc) 0 ∅ 0 : sProp 𝕄)))
    ∗ bigSep Finset.univ (fun s : Dev nD => (atPos ER (agC c s) 0 ∅ 0 : sProp 𝕄))) := by
  unfold ownAt s1At
  rw [← last_first (fun k : Fin 8 => (atPos ER (s1C c k) 0 ∅ 0 : sProp 𝕄)), ← last_first (fun k : Fin 8 => (atPos ER (s2C c k) 0 ∅ 0 : sProp 𝕄)),
    bigSep_univ_prod, show (Finset.univ : Finset (Fin 4)) = {0, 1, 2, 3} from rfl, bigSep_insert (by decide), bigSep_insert (by decide), bigSep_insert (by decide),
    bigSep_singleton]
  exact Entails.of_eq rfl

/-- The tokens, kind by kind. -/
theorem payTok_split : bigSep Finset.univ (payTok (F := F) c)
    ⊢ iprop(bigSep Finset.univ (fun t : Fin 7 => (dutyTok ER (barC (around c t.val)) 0 c : sProp 𝕄))
      ∗ bigSep Finset.univ (startTok (F := F) c) ∗ bigSep Finset.univ (sendTok (F := F) c)) := by
  unfold payTok
  rw [bigSep_sep', bigSep_sep']

theorem recvTok_all : iprop(bigSep Finset.univ (fun s : Dev nD => (atPos ER (rsC c s) 0 ∅ 0 : sProp 𝕄))
      ∗ bigSep Finset.univ (fun s : Dev nD => (if s = c then iprop(emp) else cred (tallyAt (rsC c s) () N) : sProp 𝕄)))
    ⊢ bigSep Finset.univ (recvTok (F := F) c) := by
  rw [← bigSep_sep']; exact Entails.of_eq rfl

theorem agTodo_all : iprop(bigSep Finset.univ (fun s : Dev nD => (atPos ER (agC c s) 0 ∅ 0 : sProp 𝕄))
      ∗ bigSep Finset.univ (fun s : Dev nD => (if s = c then iprop(emp) else cred (tallyAt (agC c s) () N) : sProp 𝕄)))
    ⊢ bigSep Finset.univ (agTodo (F := F) c) := by
  rw [← bigSep_sep']; exact Entails.of_eq rfl

/-- All a device holds when its body starts is what the body's proof takes. -/
theorem body_start : iprop(ow c (O₀ c) ∗ atPos ER (barC c) 0 ∅ 0 ∗ ownAt (F := F) c ∗ bigSep Finset.univ (payTok (F := F) c) ∗ dueCreds (F := F) c
    ∗ iPts I c ∗ tPts I c ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)) ⊢ bodyIn I c := by
  unfold bodyIn dueCreds sigSt
  rw [rest_zero (fun t : Fin 7 => (dutyTok ER (barC (around c t.val)) 0 c : sProp 𝕄))]
  iintro ⟨HO, HaB, Hat, Htok, ⟨HcB, HcR, HcA⟩, Hi, Ht, ⟨%fo, Ho⟩, ⟨%fp, Hp⟩, ⟨%fr, Hr⟩⟩
  ihave Hat' := (ownAt_split (F := F) c) $$ Hat
  icases Hat' with ⟨⟨Hs17, Hs1⟩, Hrs, ⟨Hs27, Hs2⟩, Hag⟩
  ihave Htok' := (payTok_split (F := F) c) $$ Htok
  icases Htok' with ⟨HtB, HtS, HtA⟩
  ihave Hp' := (p_open (F := F) c fp) $$ Hp
  ihave Hr' := (r_open (F := F) c fr) $$ Hr
  icases Hr' with ⟨Hrc, Hrr⟩
  isplitl [HO HtB Hrr]
  · isplitl [HO]; · iexact HO
    isplitl [HtB]; · iexact HtB
    iexact Hrr
  isplitl [HaB]; · iexact HaB
  isplitl [HcB]; · iexact HcB
  isplitl [HtS]; · iexact HtS
  isplitl [Hp']; · iexact Hp'
  isplitl [Hi]; · iexact Hi
  isplitl [Ht]; · iexact Ht
  isplitl [Hrc]; · iexact Hrc
  isplitl [Hrs HcR]
  · iapply (recvTok_all (F := F) c)
    isplitl [Hrs] <;> iassumption
  isplitl [Hs1]; · iexact Hs1
  isplitl [Ho]
  · unfold outW
    iexists fo
    isplitl [Ho]; · iexact Ho
    ipureintro
    exact fun i hi => absurd hi (by first | exact Finset.notMem_empty _ | exact id)
  isplitl [HtA]; · iexact HtA
  isplitl [Hag HcA]
  · iapply (agTodo_all (F := F) c)
    isplitl [Hag] <;> iassumption
  isplitl [Hs2]; · iexact Hs2
  isplitl [Hs17]; · iexact Hs17
  iexact Hs27

end Start

end Cert.KernelIdeal.Own
-- ==== Proof.KernelIdeal.Region.lean ====
/-
  The region's data: what it finds, what it leaves, what it holds meanwhile.
-/
module

public import proofs.«01_k».proof.Proof.KernelIdeal.Start
public import proofs.«01_k».proof.Proof.Gen.KernelIdeal.Regions
public import proofs.«01_k».proof.Proof.Gen.KernelIdeal.Points
public import Idealize.ShloMosaic.Lib.Pipeline.ValueKit.Geometry
public import Idealize.ShloMosaic.Lib.Pipeline.RegionTalk

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

open Idealize.ShloMosaic.Pipeline (Dat)

/-! ## The data of the region -/

section Region

variable (m : (ℓ : Loc nD τ sig) → Buf (Elt F) ℓ)

/-- What the region finds in the arrays: the turned indices and the part of the table. -/
def inputsOf : Inputs F := ⟨fun c => V3 m c main_v12, fun c => V3 m c main_arg0⟩

/-- The arrays after the region: its result holds the rows gathered, the others are as before. -/
def Vend (c : Dev nD) : Valuation τ sig (Elt F) := Function.update (V3 m c) main_v13 (outBuf (inputsOf m) c)

theorem Vend_of (c : Dev nD) (r : Ref sig .tc) (h : r ≠ main_v13) : Vend m c r = V3 m c r :=
  Function.update_of_ne (StableHlo.devRef_ne_of_ne h) _ _
theorem Vend_result (c : Dev nD) : Vend m c main_v13 = outBuf (inputsOf m) c := Function.update_self _ _ _

/-- What the protocol gives a device once its counters are open. -/
def Xk (c : Dev nD) : sProp 𝕄 :=
  iprop((∃ K : GSem nD τ sig → ℕ, pers (inputsOf m) K c) ∗ atPos ER (barC c) 0 ∅ 0 ∗ ownAt (F := F) c ∗ bigSep Finset.univ (payTok (F := F) c) ∗ dueCreds (F := F) c)

/-- The two scratch buffers, with any contents. -/
def scratchAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def dats (_ : Fin 1) (c : Dev nD) : Dat τ (Elt F) Unit ℕ UU ℕ cfg0 c where
  A w := V3 m c (Pipeline.arrRef spec0 w)
  after w _ := match w with
    | ⟨0, _⟩ => (inputsOf m).idx c
    | ⟨1, _⟩ => (inputsOf m).tab c
    | ⟨2, _⟩ => outBuf (inputsOf m) c
    | ⟨_ + 3, h⟩ => absurd h (Nat.not_lt.2 (Nat.le_add_left _ _))
  Φ t := match t with
    | ⟨0, _⟩ => iprop(Xk m c ∗ scratchAny (F := F) c ∗ ∃ r, prngReg c r)
    | ⟨_ + 1, _⟩ => iprop((ownZero (F := F) c ∗ semVal (barC c) 0) ∗ scratchAny (F := F) c ∗ ∃ r, prngReg c r)
  q _ := fullShare
  owed t := match t with
    | ⟨0, _⟩ => O₀ c
    | ⟨_ + 1, _⟩ => 0

theorem before_0 (c : Dev nD) (t : Fin cfg0.N) (d) : (dats m 0 c).before 0 t d = (inputsOf m).idx c := by
  obtain rfl := fin_N0 t
  unfold Dat.before; rw [if_pos (fetch0_0 _)]
  funext j
  show V3 m c main_v12 (((cfg0.win 0).rect t0_0).emb j) = V3 m c main_v12 j
  congr 1; funext a; apply Fin.ext
  rw [Pipeline.Window.rect_emb_val_of_index_zero _ _ _ ((by decide : ∀ a, (cfg0.win 0).index t0_0 a = 0) a)]

theorem before_1 (c : Dev nD) (t : Fin cfg0.N) (d) : (dats m 0 c).before 1 t d = (inputsOf m).tab c := by
  obtain rfl := fin_N0 t
  unfold Dat.before; rw [if_pos (fetch0_1 _)]
  funext j
  show V3 m c main_arg0 (((cfg0.win 1).rect t0_0).emb j) = V3 m c main_arg0 j
  congr 1; funext a; apply Fin.ext
  rw [Pipeline.Window.rect_emb_val_of_index_zero _ _ _ ((by decide : ∀ a, (cfg0.win 1).index t0_0 a = 0) a)]

theorem final_0 (c : Dev nD) : (dats m 0 c).arrAt 0 cfg0.N = V3 m c main_v12 := (dats m 0 c).arrAt_in 0 rfl _
theorem final_1 (c : Dev nD) : (dats m 0 c).arrAt 1 cfg0.N = V3 m c main_arg0 := (dats m 0 c).arrAt_in 1 rfl _
theorem final_2 (c : Dev nD) : (dats m 0 c).arrAt 2 cfg0.N = outBuf (inputsOf m) c :=
  (dats m 0 c).arrAt_eq_of_after_last 2 t0_0 (by decide +kernel) _ fun j => rfl

end Region

end Cert.KernelIdeal.Own
-- ==== Proof.KernelIdeal.Oblig.lean ====
/-
  The body's obligation to the pipeline.
-/
module

public import proofs.«01_k».proof.Proof.KernelIdeal.Region

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

open Idealize.ShloMosaic.Pipeline (Dat BodyObligation)

section Oblig

variable (m : (ℓ : Loc nD τ sig) → Buf (Elt F) ℓ) (c : Dev nD)

/-- What the device owes before the region's point, and what it owes after. -/
theorem owes_before : ((dats m 0 c).owesAt () t0_0.castSucc : sProp 𝕄) ⊢ ow c (O₀ c) := by
  unfold Dat.owesAt Pipeline.owesWithin ow
  rw [show (dats m 0 c).owed t0_0.castSucc = O₀ c from rfl]
  iintro ⟨%W, -, H⟩
  iexists W; iexact H

theorem owes_after : ow (F := F) c 0 ⊢ ((dats m 0 c).owesAt () t0_0.succ : sProp 𝕄) := by
  unfold Dat.owesAt Pipeline.owesWithin ow
  rw [show (dats m 0 c).owed t0_0.succ = 0 from rfl]
  iintro ⟨%W, H⟩
  iexists W
  isplitr
  · ipureintro; exact fun _ _ => Or.inl trivial
  iexact H

/-- A whole buffer holding `X`, with its contents named. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def pointPre : sProp 𝕄 :=
  iprop((Xk m c ∗ scratchAny (F := F) c ∗ ∃ r, prngReg c r)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def pointPost : sProp 𝕄 :=
  iprop(((ownZero (F := F) c ∗ semVal (barC c) 0) ∗ scratchAny (F := F) c ∗ ∃ r, prngReg c r)
    ∗ (dats m 0 c).owesAt () t0_0.succ
    ∗ stg c cc0_stg0_0 ((inputsOf m).idx c) ∗ stg c cc0_stg1_0 ((inputsOf m).tab c) ∗ stg c cc0_stg2_0 (outBuf (inputsOf m) c))

/-- The body at the region's one point. -/
theorem point_run : pointPre m c ⊢ run c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5)
    (fun _ => pointPost m c) := by
  unfold pointPre Xk scratchAny
  iintro ⟨⟨⟨⟨%K, #Hp⟩, HaB, Hat, Htok, Hdue⟩, ⟨Hs0, Hs1⟩, Hreg⟩, Ho, ⟨%d0, %g0, %hg0, Hi⟩, ⟨%d1, %g1, %hg1, Ht⟩, ⟨%d2, %g2, %hg2, Hout⟩⟩
  obtain rfl : g0 = (inputsOf m).idx c := hg0.trans (before_0 m c t0_0 d0)
  obtain rfl : g1 = (inputsOf m).tab c := hg1.trans (before_1 m c t0_0 d1)
  ihave HO := (owes_before m c) $$ Ho
  ihave Hin := (body_start (inputsOf m) c) $$ [HO HaB Hat Htok Hdue Hs0 Hs1 Hi Ht Hout]
  · isplitl [HO]; · iexact HO
    isplitl [HaB]; · iexact HaB
    isplitl [Hat]; · iexact Hat
    isplitl [Htok]; · iexact Htok
    isplitl [Hdue]; · iexact Hdue
    isplitl [Hi]; · unfold iPts; iexact Hi
    isplitl [Ht]; · unfold tPts; iexact Ht
    isplitl [Hout]; · iexists g2; iexact Hout
    isplitl [Hs0]; · iexact Hs0
    iexact Hs1
  iapply (body_run (inputsOf m) K c) $$ [Hin]
  · isplitr; · iexact Hp
    iexact Hin
  unfold bodyOut iPts tPts
  iintro ⟨HO, Hi, Ht, Hout, Hs0, Hs1, Hz, Hb⟩
  unfold pointPost scratchAny
  isplitl [Hz Hb Hs0 Hs1 Hreg]
  · isplitl [Hz Hb]; · isplitl [Hz] <;> iassumption
    isplitl [Hs0 Hs1]; · isplitl [Hs0] <;> iassumption
    iexact Hreg
  isplitl [HO]; · iapply (owes_after m c); iexact HO
  isplitl [Hi]
  · iexists (inputsOf m).idx c; isplitr; · ipureintro; rfl
    iexact Hi
  isplitl [Ht]
  · iexists (inputsOf m).tab c; isplitr; · ipureintro; rfl
    iexact Ht
  iexists outBuf (inputsOf m) c; isplitr; · ipureintro; rfl
  iexact Hout

theorem windows_three (Φ : Fin cfg0.W → sProp 𝕄) : bigSep Finset.univ Φ = iprop(Φ (0 : Fin 3) ∗ Φ (1 : Fin 3) ∗ Φ (2 : Fin 3)) := bigSep_W0 Φ

theorem body_at : defs₀ (F := F) Proc.tc 0 (t0_0, cfg0.slots t0_0) = cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 := by
  unfold defs₀ Defs.onTc
  rfl

set_option maxRecDepth 4000 in
/-- What the pipeline asks of the body. -/
theorem body_obligation : BodyObligation (dats m 0 c) (defs₀ (F := F)) 𝒱₀ () Set.univ := fun t => by
  rw [fin_N0 t]
  rw [windows_three, windows_three]
  rw [show (dats m 0 c).Φ t0_0.castSucc = iprop(Xk m c ∗ scratchAny (F := F) c ∗ ∃ r, prngReg c r) from rfl,
    show (dats m 0 c).Φ t0_0.succ = iprop((ownZero (F := F) c ∗ semVal (barC c) 0) ∗ scratchAny (F := F) c ∗ ∃ r, prngReg c r) from rfl]
  simp only [owns_whole_eq]
  rw [show (dats m 0 c).after (0 : Fin 3) t0_0 = (inputsOf m).idx c from rfl, show (dats m 0 c).after (1 : Fin 3) t0_0 = (inputsOf m).tab c from rfl,
    show (dats m 0 c).after (2 : Fin 3) t0_0 = outBuf (inputsOf m) c from rfl]
  rw [show (defs₀ (F := F) Proc.tc cfg0.body (cfg0.bodyArgs t0_0 (cfg0.slots t0_0))) = _ from body_at]
  have h := point_run m c
  unfold run at h
  refine BIBase.Entails.trans ?_ (BIBase.Entails.trans h ?_)
  · unfold pointPre
    iintro ⟨H, Ho, H0, H1, H2⟩
    isplitl [H]; · iexact H
    isplitl [Ho]; · iexact Ho
    isplitl [H0]; · iexact H0
    isplitl [H1]; · iexact H1
    iexact H2
  · unfold pointPost
    refine Entails.of_eq ?_
    congr 1

end Oblig

end Cert.KernelIdeal.Own
-- ==== Proof.KernelIdeal.Talk.lean ====
/-
  The region as one segment of the program.
-/
module

public import proofs.«01_k».proof.Proof.KernelIdeal.Oblig
public import Idealize.ShloMosaic.Lib.Pipeline.RegionArrays

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

open Idealize.ShloMosaic.Pipeline (Dat)

section Talk

variable (m : (ℓ : Loc nD τ sig) → Buf (Elt F) ℓ)

/-- Every counter's invariant, under one map of names. -/
def invs : sProp 𝕄 := bigSep Finset.univ (fun y : Dev nD × Role => cellInv ER (rd I) (K (cell y.1 y.2)) (cell y.1 y.2))

instance invs_persistent : BI.Persistent (invs I K) := by unfold invs; infer_instance

theorem invs_at (p : Dev nD) (x : Role) : invs I K ⊢ cellInv ER (rd I) (K (cell p x)) (cell p x) :=
  bigSep_elim (Φ := fun y : Dev nD × Role => cellInv ER (rd I) (K (cell y.1 y.2)) (cell y.1 y.2)) (Finset.mem_univ (p, x))

theorem open_one (c : Dev nD) (x : Fin 4 × Fin 8) :
    iprop(invs I K ∗ (openTok ER (cell c (some x)) ∗ semVal (cell c (some x)) 0))
      ⊢ (|={Set.univ}=> (atPos ER (cell c (some x)) 0 ∅ 0 ∗ reached ER (cell c (some x)) 0) : sProp 𝕄) := by
  iintro ⟨Hi, Ho, Hs⟩
  iapply (Rounds.cell_open ER (rd I) (g := cell c (some x)) (Set.mem_univ (K (cell c (some x)))))
  isplitl [Hi]; · iapply (invs_at I K c (some x)); iexact Hi
  isplitl [Ho] <;> iassumption

/-- The device's counters of transfers are opened, all at once. -/
theorem open_all (c : Dev nD) :
    iprop(invs I K ∗ bigSep Finset.univ (fun x : Fin 4 × Fin 8 => (openTok ER (cell c (some x)) : sProp 𝕄)) ∗ ownZero (F := F) c)
      ⊢ (|={Set.univ}=> (ownAt (F := F) c ∗ bigSep Finset.univ (fun x : Fin 4 × Fin 8 => (reached ER (cell c (some x)) 0 : sProp 𝕄))) : sProp 𝕄) := by
  unfold ownZero ownAt
  rw [← bigSep_sep', ← bigSep_sep']
  exact (bigSep_with_persistent (R := invs I K) fun x _ => open_one I K c x).trans (bigSep_fupd _ _)

/-- What the launch gives a device for the region. -/
def Tk (c : Dev nD) : sProp 𝕄 :=
  iprop((∃ K : GSem nD τ sig → ℕ, invs (inputsOf m) K) ∗ bigSep Finset.univ (fun p : Dev nD => (reached ER (barC p) 0 : sProp 𝕄))
    ∗ atPos ER (barC c) 0 ∅ 0 ∗ bigSep Finset.univ (fun x : Fin 4 × Fin 8 => (openTok ER (cell c (some x)) : sProp 𝕄))
    ∗ bigSep Finset.univ (payTok (F := F) c) ∗ dueCreds (F := F) c)

/-- The counters of transfers, as the pipeline names the region's own semaphores. -/
abbrev osem (x : Fin 4 × Fin 8) : SemLoc sig := semOf (some x)

theorem ownSems_eq (c : Dev nD) : (Pipeline.ownSems0 osem c : sProp 𝕄) = ownZero (F := F) c := rfl

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨⟨%K, #Hi⟩, #Hr, HaB, Ho, Htok, Hdue⟩, Hz, #Hlev⟩
  imod (open_all (inputsOf m) K c) $$ [Ho Hz] with ⟨Hat, #Hrc⟩
  · isplitr; · iexact Hi
    isplitl [Ho] <;> iassumption
  imodintro
  isplitr
  · iexists K; unfold pers
    isplitr; · unfold invs; iexact Hi
    isplitr; · iexact Hr
    isplitr; · iexact Hrc
    iexact Hlev
  isplitl [HaB]; · iexact HaB
  isplitl [Hat]; · iexact Hat
  isplitl [Htok]; · iexact Htok
  iexact Hdue

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V3 m c) ∗ Xk m c) ⊢ (dats m 0 c).Φ 0 := by
  rw [show (dats m 0 c).Φ 0 = iprop(Xk m c ∗ scratchAny (F := F) c ∗ ∃ r, prngReg c r) from rfl,
    show (Pipeline.scopedRest (Pipeline.pin (pcfgs (F := F)) adm 0).spec c : sProp 𝕄) = scratchAny (F := F) c from scopedRest0_eq c]
  iintro ⟨Hs, Hp, -, HX⟩
  isplitl [HX]; · iexact HX
  isplitl [Hs] <;> iassumption

theorem hout (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vend m c) ∗ Pipeline.ownSems0 osem c ∗ semVal (barC c) 0) := by
  rw [show (dats m 0 c).Φ (Fin.last (Pipeline.pin (pcfgs (F := F)) adm 0).N)
      = iprop((ownZero (F := F) c ∗ semVal (barC c) 0) ∗ scratchAny (F := F) c ∗ ∃ r, prngReg c r) from rfl,
    show (Pipeline.scopedRest (Pipeline.pin (pcfgs (F := F)) adm 0).spec c : sProp 𝕄) = scratchAny (F := F) c from scopedRest0_eq c,
    ownSems_eq, held_none]
  iintro ⟨⟨Hz, Hb⟩, Hs, Hp⟩
  isplitl [Hs]; · iexact Hs
  isplitl [Hp]; · iexact Hp
  isplitr; · iempintro
  isplitl [Hz] <;> iassumption

theorem owes_above (c : Dev nD) : Above 0 (O₀ c) :=
  above_add (above_add (above_mono (above_rs c 0) (by decide)) (above_mono (above_ag c 0) (by decide))) (above_bar c 0)

theorem owed_cut (c : Dev nD) (t : Fin ((Pipeline.pin (pcfgs (F := F)) adm 0).N + 1)) (g : GSem nD τ sig) (i : Unit)
    (h : 0 < (dats m 0 c).owed t g i) : i ∈ L g ∧ (0 : ℕ) < lv g i := by
  have hO : (dats m 0 c).owed t = O₀ c ∨ (dats m 0 c).owed t = 0 := by
    obtain ⟨t, ht⟩ := t
    cases t with
    | zero => exact .inl rfl
    | succ t => exact .inr rfl
  rcases hO with e | e
  · rw [e] at h
    obtain ⟨hg, hl⟩ := owes_above c g i h
    exact ⟨by unfold L; rw [if_pos hg]; exact Finset.mem_singleton_self _, hl⟩
  · rw [e] at h; exact absurd h (Nat.lt_irrefl 0)

/-- The arrays no window stands on. -/
abbrev offRefs : Finset (DevRef τ sig) := Pipeline.ucRefs τ sig \ Pipeline.arrRefs (τ := τ) spec0

theorem off_result : (Proc.devRef .tc main_v13 : DevRef τ sig) ∈ Pipeline.arrRefs (τ := τ) spec0 := by decide

theorem off_ne {b : DevRef τ sig} (hb : b ∈ offRefs \ (∅ : Finset (DevRef τ sig))) : b ≠ Proc.devRef .tc main_v13 := by
  rintro rfl
  exact (Finset.mem_sdiff.mp (Finset.mem_sdiff.mp hb).1).2 off_result

theorem share_full (c : Dev nD) (w : Fin cfg0.W) : (dats m 0 c).share w = fullShare := by
  unfold Dat.share; split <;> rfl

theorem lv_staging (c : Dev nD) (w : Fin 3) (s : Fin (spec0 w).nbuf) : lv ((c : Thread nD τ), SemLoc.dma ((spec0 w).sem s)) () ≤ 0 := by
  dsimp only [lv]; revert s; revert w; decide

theorem final_all (c : Dev nD) (w : Fin cfg0.W) : (dats m 0 c).arrAt w cfg0.N = Vend m c (Proc.devRef .tc (Pipeline.arrRef spec0 w)) := by
  match w with
  | ⟨0, _⟩ => exact (final_0 m c).trans (Vend_of m c main_v12 (by decide)).symm
  | ⟨1, _⟩ => exact (final_1 m c).trans (Vend_of m c main_arg0 (by decide)).symm
  | ⟨2, _⟩ => exact (final_2 m c).trans (Vend_result m c).symm

set_option backward.isDefEq.respectTransparency.types false in
/-- The region, as the pipeline's launch takes it. -/
def reg : Pipeline.RegionSeg (Name := ℕ) (U := UU) (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ offRefs (Finset.empty_subset _) (launch0.toP) rfl (fun c => (body_obligation m c).loose)
    (fun _ => 0) O₀ (fun c => (zero_add _).symm) (fun c => rfl) (fun _ => rfl) (fun _ w => share_full m _ w)
    (V3 m) (Vend m) (fun c b hb => Function.update_of_ne (off_ne hb) _ _)
    (Tk m) (fun c => semVal (barC c) 0) (Xk m) (fun c => semVal (barC c) 0) (hopen m) (hin m) (hout m)
    (fun c => by iintro H; imodintro; iexact H)
    (fun _ => 0)
    ⟨fun c w s => by rw [L_tc]; exact Finset.mem_singleton_self _, fun c w s => lv_staging c w s, fun c t g i h => owed_cut m c t g i h⟩
    (fun _ => iprop(emp))
    (fun c w => rfl) (fun c w => final_all m c w)

theorem held_split (c : Dev nD) (W : Valuation τ sig (Elt F)) : (StableHlo.held (c.tc : Thread nD τ) (Pipeline.ucRefs τ sig) W : sProp 𝕄)
    = iprop(StableHlo.held (c.tc : Thread nD τ) (Pipeline.arrRefs (τ := τ) spec0) W ∗ StableHlo.held (c.tc : Thread nD τ) offRefs W) := by
  unfold StableHlo.held
  rw [← Finset.union_sdiff_of_subset (Pipeline.arrRefs_sub_ucRefs spec0 (by decide)), bigSep_union Finset.disjoint_sdiff]
  exact congrArg₂ _ rfl rfl

/-- What a device carries up to the region beside the arrays. -/
def carried (c : Dev nD) : sProp 𝕄 := iprop(Tk m c ∗ (∃ r, prngReg c r) ∗ ow (F := F) c (O₀ c))

theorem reg_pre (c : Dev nD) : iprop(StableHlo.held (c : Thread nD τ) (Pipeline.ucRefs τ sig) (V3 m c) ∗ carried m c) ⊢ (reg m).pre c := by
  show _ ⊢ iprop(StableHlo.held (c.tc : Thread nD τ) (Pipeline.arrRefs (τ := τ) spec0) (V3 m c) ∗ (∃ r, prngReg c r)
    ∗ (StableHlo.held (c.tc : Thread nD τ) offRefs (V3 m c) ∗ emp) ∗ Tk m c ∗ ∃ Wd, owes (c : Thread nD τ) (0 + O₀ c) Wd)
  rw [held_split, zero_add]
  unfold carried ow
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) : (reg m).post c
    ⊢ iprop((StableHlo.held (c : Thread nD τ) (Pipeline.ucRefs τ sig) (Vend m c) ∗ semVal (barC c) 0) ∗ ∃ W, owes (c : Thread nD τ) (0 : CellTallies nD τ sig Unit) W) := by
  show iprop(StableHlo.held (c.tc : Thread nD τ) (Pipeline.arrRefs (τ := τ) spec0) (Vend m c) ∗ (∃ r, prngReg c r)
    ∗ (StableHlo.held (c.tc : Thread nD τ) offRefs (Vend m c) ∗ emp) ∗ semVal (barC c) 0 ∗ ∃ Wd, owes (c : Thread nD τ) (0 : CellTallies nD τ sig Unit) Wd) ⊢ _
  rw [held_split]
  iintro ⟨Ha, -, ⟨Ho, -⟩, Hb, HO⟩
  isplitr [HO]
  · isplitr [Hb]
    · isplitl [Ha] <;> iassumption
    iexact Hb
  iexact HO

end Talk

end Cert.KernelIdeal.Own
-- ==== Proof.KernelIdeal.Launch.lean ====
/-
  The counters, the tokens and the credit at launch.
-/
module

public import proofs.«01_k».proof.Proof.KernelIdeal.Talk

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Launch

variable (m : (ℓ : Loc nD τ sig) → Buf (Elt F) ℓ)

/-! ## The counters and the tokens at launch -/

def barEmb : Dev nD ↪ GSem nD τ sig := ⟨fun c => barC c, fun _ _ h => congrArg (fun g : GSem nD τ sig => g.1.1) h⟩
def cellEmb : Dev nD × Role ↪ GSem nD τ sig := ⟨fun y => cell y.1 y.2, fun _ _ h =>
  Prod.ext (congrArg (fun g : GSem nD τ sig => g.1.1) h) (semOf_inj (congrArg Prod.snd h))⟩
def movEmb : Dev nD × (Fin 4 × Fin 8) ↪ GSem nD τ sig := ⟨fun y => cell y.1 (some y.2), fun _ _ h =>
  Prod.ext (congrArg (fun g : GSem nD τ sig => g.1.1) h) (Option.some.inj (semOf_inj (congrArg Prod.snd h)))⟩

/-- The barriers, live from the start, and the counters of transfers, dormant. -/
abbrev barCells : Finset (GSem nD τ sig) := Finset.univ.map barEmb
abbrev movCells : Finset (GSem nD τ sig) := Finset.univ.map movEmb

theorem cells_disjoint : Disjoint barCells movCells := by
  rw [Finset.disjoint_left]
  rintro g h h'
  obtain ⟨c, -, rfl⟩ := Finset.mem_map.mp h
  obtain ⟨y, -, e⟩ := Finset.mem_map.mp h'
  have e' : semOf (some y.2) = semOf none := congrArg Prod.snd e
  exact Option.some_ne_none _ (semOf_inj e')

theorem cells_union : barCells ∪ movCells = (Finset.univ : Finset (Dev nD × Role)).map cellEmb := by
  ext g
  simp only [Finset.mem_union, Finset.mem_map, Finset.mem_univ, true_and]
  constructor
  · rintro (⟨c, rfl⟩ | ⟨y, rfl⟩)
    · exact ⟨(c, none), rfl⟩
    · exact ⟨(y.1, some y.2), rfl⟩
  · rintro ⟨⟨c, x⟩, rfl⟩
    cases x with
    | none => exact .inl ⟨c, rfl⟩
    | some x => exact .inr ⟨(c, x), rfl⟩

/-- The device and the counter of the `k`-th kind of payment `c` makes for the `t`-th peer. -/
def payDev (c : Dev nD) (t : Fin 7) : Fin 5 → Dev nD
  | 0 => around c t.val
  | 1 => around c t.val
  | 2 => c
  | 3 => around c t.val
  | 4 => c
def payRole (c : Dev nD) (t : Fin 7) : Fin 5 → Role
  | 0 => none
  | 1 => some (1, c)
  | 2 => some (0, t.castSucc)
  | 3 => some (3, c)
  | 4 => some (2, t.castSucc)

theorem pay_inj : ∀ (c : Dev nD) (y z : Fin 7 × Fin 5), payDev c y.1 y.2 = payDev c z.1 z.2 → payRole c y.1 y.2 = payRole c z.1 z.2 → y = z := by
  decide +kernel

def tokEmb : Dev nD × (Fin 7 × Fin 5) ↪ GSem nD τ sig × ℕ × Dev nD :=
  ⟨fun y => (cell (payDev y.1 y.2.1 y.2.2) (payRole y.1 y.2.1 y.2.2), 0, y.1), by
    rintro ⟨c, y⟩ ⟨c', y'⟩ h
    obtain rfl : c = c' := congrArg (fun z => z.2.2) h
    have hg := congrArg (fun z : GSem nD τ sig × ℕ × Dev nD => z.1) h
    rw [pay_inj c y y' (congrArg (fun g : GSem nD τ sig => g.1.1) hg) (semOf_inj (congrArg Prod.snd hg))]⟩

/-- Every payment's token. -/
def toks : Finset (GSem nD τ sig × ℕ × Dev nD) := Finset.univ.map tokEmb

theorem five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} from rfl, bigSep_insert (by decide), bigSep_insert (by decide), bigSep_insert (by decide),
    bigSep_insert (by decide), bigSep_singleton]
  rfl

theorem payTok_of (c : Dev nD) (t : Fin 7) :
    bigSep Finset.univ (fun k : Fin 5 => (dutyTok ER (cell (payDev c t k) (payRole c t k)) 0 c : sProp 𝕄)) ⊢ payTok (F := F) c t := by
  rw [five]
  unfold payTok startTok sendTok
  iintro ⟨H0, H1, H2, H3, H4⟩
  isplitl [H0]; · iexact H0
  isplitl [H1 H2]
  · isplitl [H1]; · iexact H1
    iexact H2
  isplitl [H3]; · iexact H3
  iexact H4

/-- The tokens, each with the device that pays. -/
theorem toks_split : bigSep toks (fun x => (dutyTok ER x.1 x.2.1 x.2.2 : sProp 𝕄))
    ⊢ bigSep Finset.univ (fun c : Dev nD => bigSep Finset.univ (payTok (F := F) c)) := by
  unfold toks
  rw [bigSep_map, bigSep_univ_prod]
  refine bigSep_mono fun c _ => ?_
  rw [bigSep_univ_prod]
  exact bigSep_mono fun t _ => payTok_of c t

/-! ## The launch credit -/

/-- How many of the payments of one kind go to the counter `x` of `c`. -/
def hits (f : Dev nD → Role) (c : Dev nD) (x : Role) : ℕ := ∑ d : Dev nD, ∑ t : Fin 7, if around d t.val = c ∧ f d = x then 1 else 0

theorem tally_at (p c : Dev nD) (y x : Role) (n : ℕ) :
    (tallyAt (cell p y) () n : CellTallies nD τ sig Unit) (cell c x) () = (if p = c ∧ y = x then 1 else 0) * n := by
  rw [tallyAt_apply]
  by_cases h : p = c ∧ y = x
  · rw [if_pos h, if_pos ⟨by rw [h.1, h.2], rfl⟩, Nat.one_mul]
  · rw [if_neg h, if_neg (fun e => h ⟨(congrArg (fun g : GSem nD τ sig => g.1.1) e.1).symm, (semOf_inj (congrArg Prod.snd e.1)).symm⟩), Nat.zero_mul]

theorem debt_at (f : Dev nD → Role) (n : ℕ) (c : Dev nD) (x : Role) :
    ∑ d : Dev nD, (debt (fun t => tallyAt (cell (around d t.val) (f d)) () n) 0 : CellTallies nD τ sig Unit) (cell c x) () = hits f c x * n := by
  unfold hits debt
  rw [Finset.sum_mul]
  refine Finset.sum_congr rfl fun d _ => ?_
  rw [fromN_zero, Finset.sum_apply, Finsupp.finsetSum_apply, Finset.sum_mul]
  exact Finset.sum_congr rfl fun t _ => tally_at _ _ _ _ _

/-- What is owed to the counter `x` of `c` by all together. -/
def owedTo (c : Dev nD) (x : Role) : ℕ := hits (fun d => some (1, d)) c x * N + hits (fun d => some (3, d)) c x * N + hits (fun _ => none) c x * 1

theorem owedTo_eq (c : Dev nD) (x : Role) : ∑ d : Dev nD, O₀ d (cell c x) () = owedTo c x := by
  unfold owedTo
  rw [← debt_at, ← debt_at, ← debt_at, ← Finset.sum_add_distrib, ← Finset.sum_add_distrib]
  rfl

theorem credit_at (c : Dev nD) (x : Role) :
    tallyOn (cell c x) (launchCredit (Pipeline.owing O₀) 0 (cell c x)) = (tallyAt (cell c x) () (owedTo c x) : CellTallies nD τ sig Unit) := by
  unfold tallyAt; refine congrArg _ (Finsupp.ext fun u => ?_); cases u
  rw [Pipeline.launchCredit_owing, Finsupp.single_eq_same, owedTo_eq]

theorem owedTo_bar (c : Dev nD) : owedTo c none = 7 := by
  have h : ∀ c : Dev nD, hits (fun d => some (1, d)) c none = 0 ∧ hits (fun d => some (3, d)) c none = 0 ∧ hits (fun _ => none) c none = 7 := by decide +kernel
  obtain ⟨h1, h2, h3⟩ := h c
  unfold owedTo; rw [h1, h2, h3, Nat.zero_mul]

theorem owedTo_rs (c s : Dev nD) (h : s ≠ c) : owedTo c (some (1, s)) = N := by
  have h : ∀ c s : Dev nD, s ≠ c → hits (fun d => some (1, d)) c (some (1, s)) = 1 ∧ hits (fun d => some (3, d)) c (some (1, s)) = 0 ∧ hits (fun _ => none) c (some (1, s)) = 0 := by
    decide +kernel
  obtain ⟨h1, h2, h3⟩ := h c s ‹_›
  unfold owedTo; rw [h1, h2, h3, Nat.zero_mul, Nat.one_mul, Nat.zero_mul]; rfl

theorem owedTo_ag (c s : Dev nD) (h : s ≠ c) : owedTo c (some (3, s)) = N := by
  have h : ∀ c s : Dev nD, s ≠ c → hits (fun d => some (1, d)) c (some (3, s)) = 0 ∧ hits (fun d => some (3, d)) c (some (3, s)) = 1 ∧ hits (fun _ => none) c (some (3, s)) = 0 := by
    decide +kernel
  obtain ⟨h1, h2, h3⟩ := h c s ‹_›
  unfold owedTo; rw [h1, h2, h3, Nat.zero_mul, Nat.one_mul, Nat.zero_mul, Nat.zero_add]; rfl

theorem peer_cred (c s : Dev nD) (g : GSem nD τ sig) (n : ℕ) (h : s ≠ c → n = N) :
    cred (tallyAt g () n) ⊢ (if s = c then iprop(emp) else cred (tallyAt g () N) : sProp 𝕄) := by
  by_cases e : s = c
  · rw [if_pos e]; iintro -; iempintro
  · rw [if_neg e, h e]

def semEmb : Role ↪ SemLoc sig := ⟨semOf, semOf_inj⟩

theorem roles_split (Φ : Role → sProp 𝕄) : bigSep Finset.univ Φ = iprop(Φ none ∗ bigSep Finset.univ (fun x : Fin 4 × Fin 8 => Φ (some x))) := by
  rw [bigSep_univ_at _ none, show (Finset.univ.erase none : Finset Role) = Finset.univ.map Function.Embedding.some from by
    ext x; cases x <;> simp, bigSep_map]
  rfl

theorem rows (Φ : Fin 4 × Fin 8 → sProp 𝕄) : bigSep Finset.univ Φ
    ⊢ iprop(bigSep Finset.univ (fun s : Fin 8 => Φ (1, s)) ∗ bigSep Finset.univ (fun s : Fin 8 => Φ (3, s))) := by
  rw [bigSep_univ_prod, show (Finset.univ : Finset (Fin 4)) = {0, 1, 2, 3} from rfl, bigSep_insert (by decide), bigSep_insert (by decide), bigSep_insert (by decide),
    bigSep_singleton]
  show iprop(bigSep Finset.univ (fun s : Fin 8 => Φ (0, s)) ∗ bigSep Finset.univ (fun s : Fin 8 => Φ (1, s))
    ∗ bigSep Finset.univ (fun s : Fin 8 => Φ (2, s)) ∗ bigSep Finset.univ (fun s : Fin 8 => Φ (3, s))) ⊢ _
  iintro ⟨-, H1, -, H3⟩
  isplitl [H1] <;> iassumption

/-- A device's launch credit is what its peers owe it. -/
theorem launch_creds (c : Dev nD) : (Pipeline.launchCred O₀ c : sProp 𝕄) ⊢ dueCreds (F := F) c := by
  unfold Pipeline.launchCred
  refine (bigSep_subset (t := Finset.univ.map semEmb) (Finset.subset_univ _)).trans ?_
  rw [bigSep_map]
  refine (bigSep_mono (Ψ := fun x : Role => (cred (tallyAt (cell c x) () (owedTo c x)) : sProp 𝕄))
    fun x _ => Entails.of_eq (congrArg cred (credit_at c x))).trans ?_
  rw [roles_split, owedTo_bar]
  refine (sep_mono_right (rows fun x => cred (tallyAt (cell c (some x)) () (owedTo c (some x))))).trans ?_
  unfold dueCreds
  exact sep_mono_right (BI.sep_mono (bigSep_mono fun s _ => peer_cred c s _ _ (owedTo_rs c s)) (bigSep_mono fun s _ => peer_cred c s _ _ (owedTo_ag c s)))

end Launch

end Cert.KernelIdeal.Own
-- ==== Proof.KernelIdeal.Run.lean ====
/-
  The whole program: it ends, and what it leaves in memory.
-/
module

public import proofs.«01_k».proof.Proof.KernelIdeal.Launch
public import Idealize.ShloMosaic.Harness.Basic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : GSem nD τ sig → ℕ)

section Run

variable (m : (ℓ : Loc nD τ sig) → Buf (Elt F) ℓ) (ρ : Dev nD → PrngReg)

/-! ## The start -/

/-- What all devices share once the counters are set up. -/
def records (κ : GSem nD τ sig → ℕ) : sProp 𝕄 :=
  iprop(invs (inputsOf m) κ ∗ bigSep Finset.univ fun p : Dev nD => reached ER (barC p) 0)

instance records_persistent (κ : GSem nD τ sig → ℕ) : BI.Persistent (records m κ) := by unfold records; infer_instance

/-- What of the protocol's state belongs to one device. -/
def ownShare (c : Dev nD) : sProp 𝕄 :=
  iprop(atPos ER (barC c) 0 ∅ 0 ∗ bigSep Finset.univ (fun x : Fin 4 × Fin 8 => openTok ER (cell c (some x))) ∗ bigSep Finset.univ (payTok (F := F) c))

/-- What else a device has at launch. -/
def bundle (c : Dev nD) : sProp 𝕄 :=
  iprop(StableHlo.held (c : Thread nD τ) (Pipeline.ucRefs τ sig) (V0 m c) ∗ dueCreds (F := F) c ∗ owes (c : Thread nD τ) (O₀ c) ∅ ∗ ∃ r, prngReg c r)

/-- A device's holdings before the first operation. -/
abbrev held₀ (c : Dev nD) : sProp 𝕄 := iprop(StableHlo.held (c : Thread nD τ) (Pipeline.ucRefs τ sig) (V0 m c) ∗ carried m c)

theorem held₀_intro (κ : GSem nD τ sig → ℕ) (c : Dev nD) : iprop(records m κ ∗ (ownShare (F := F) c ∗ bundle m c)) ⊢ held₀ m c := by
  unfold records ownShare bundle held₀ carried Tk ow
  iintro ⟨⟨#HI, #HR⟩, ⟨Ha, Ho, Ht⟩, Hh, Hd, HO, Hp⟩
  isplitl [Hh]; · iexact Hh
  isplitr [Hp HO]
  · isplitr; · iexists κ; iexact HI
    isplitr; · iexact HR
    isplitl [Ha]; · iexact Ha
    isplitl [Ho]; · iexact Ho
    isplitl [Ht] <;> iassumption
  isplitl [Hp]; · iexact Hp
  iexists ∅; iexact HO

/-- The protocol's first state: barriers live, counters of transfers dormant, every token out. -/
def u₀ : UU := (initOf (Pipeline.cells (Pipeline.pin (pcfgs (F := F)) adm) cellOf_inj) (Pipeline.launchToks (Pipeline.pin (pcfgs (F := F)) adm) cellOf_inj),
  launchOf barCells movCells toks)

/-- `P` in the hands of device `c₀` and nothing with the others. -/
def onDev (c₀ : Dev nD) (P : sProp 𝕄) (c : Dev nD) : sProp 𝕄 := if c = c₀ then P else iprop(emp)

theorem bigSep_onDev (c₀ : Dev nD) (P : sProp 𝕄) : bigSep Finset.univ (onDev c₀ P) = P := by
  rw [bigSep_univ_at _ c₀, bigSep_congr (Ψ := fun _ => (BI.emp : sProp 𝕄)) (fun c hc => by
    unfold onDev; rw [if_neg (Finset.ne_of_mem_erase hc)]; rfl), BI.bigSep_emp_const]
  unfold onDev; rw [if_pos rfl]
  exact BI.equiv_iff.mp sep_emp

def G (c : Dev nD) : sProp 𝕄 := onDev 0 (BI.own (ER (launchOf barCells movCells toks))) c

theorem unscopedSems_eq (c : Dev nD) : (unscopedSems0 c : sProp 𝕄) = semVal (barC c) 0 := by
  unfold unscopedSems0
  rw [show (Finset.univ.filter fun sm : SemLoc sig => ¬ sm.isScoped .tc) = {SemLoc.reg barrier0} from by decide, bigSep_singleton]
  rfl

theorem launch_share (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barC c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems_eq]
  unfold bundle
  iintro ⟨Hh, Hus, HO, Hcr, Hp, HG⟩
  ihave Hc := (launch_creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem over_bars (Φ : GSem nD τ sig → sProp 𝕄) : bigSep barCells Φ = bigSep Finset.univ (fun c : Dev nD => Φ (barC c)) :=
  bigSep_map (s := Finset.univ) barEmb (Φ := Φ)

theorem over_movs (Φ : GSem nD τ sig → sProp 𝕄) :
    bigSep movCells Φ = bigSep Finset.univ (fun c : Dev nD => bigSep Finset.univ (fun x : Fin 4 × Fin 8 => Φ (cell c (some x)))) :=
  (bigSep_map (s := Finset.univ) movEmb (Φ := Φ)).trans (bigSep_univ_prod _)

theorem over_cells (κ : GSem nD τ sig → ℕ) :
    bigSep (barCells ∪ movCells) (fun g => (cellInv ER (rd (inputsOf m)) (κ g) g : sProp 𝕄)) ⊢ invs (inputsOf m) κ := by
  rw [cells_union]
  unfold invs
  exact Entails.of_eq (bigSep_map (s := Finset.univ) cellEmb (Φ := fun g => (cellInv ER (rd (inputsOf m)) (κ g) g : sProp 𝕄)))

/-- The launch: the protocol is set up and every device gets its share. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (held₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => launch_share m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells movCells toks)) from
    Entails.of_eq (bigSep_onDev (F := F) 0 (BI.own (ER (launchOf barCells movCells toks))))) $$ HG
  imod (Rounds.fund_launch ER (rd (inputsOf m)) cells_disjoint (fun g _ h => h) toks) $$ [Hv Hu] with ⟨%κ, -, #Hinv, #Hr, Hat, Hopen, Htok⟩
  · isplitl [Hv]
    · iapply (Entails.of_eq (over_bars (F := F) fun g => semVal g 0).symm) $$ Hv
    · iexact Hu
  imodintro
  iapply (bigSep_with_persistent (R := records m κ) (Φ := fun c => iprop(ownShare (F := F) c ∗ bundle m c)) fun c _ => held₀_intro m κ c)
  isplitr
  · unfold records
    isplitr; · iapply (over_cells m κ); iexact Hinv
    iapply (Entails.of_eq (over_bars (F := F) fun g => reached ER g 0)); iexact Hr
  iapply Smoke.bigSep_pair
  isplitr [HB]
  · unfold ownShare
    iapply Smoke.bigSep_pair; isplitl [Hat]; · iapply (Entails.of_eq (over_bars (F := F) fun g => atPos ER g 0 ∅ 0)) $$ Hat
    iapply Smoke.bigSep_pair; isplitl [Hopen]; · iapply (Entails.of_eq (over_movs (F := F) fun g => openTok ER g)) $$ Hopen
    iapply (toks_split (F := F)) $$ Htok
  · iexact HB

/-! ## The run -/

theorem only_barrier : ∀ sm : SemLoc sig, sm.isScoped .tc = false → sm = .reg barrier0 := by decide

theorem kept0 (c : Dev nD) : Vend m c main_arg0 = m ((c : Thread nD τ).loc main_arg0) :=
  (Vend_of m c main_arg0 (by decide)).trans ((V3_of m c _ (by decide)).trans ((V2_of m c _ (by decide)).trans ((V1_of m c _ (by decide)).trans rfl)))

theorem kept1 (c : Dev nD) : Vend m c main_arg1 = m ((c : Thread nD τ).loc main_arg1) :=
  (Vend_of m c main_arg1 (by decide)).trans ((V3_of m c _ (by decide)).trans ((V2_of m c _ (by decide)).trans ((V1_of m c _ (by decide)).trans rfl)))

/-- The segments of the program, the region with its data. -/
abbrev parts (c : Dev nD) := segs m 𝒱₀ L lv (fun _ => carried m) () (dats m) (reg m) c

set_option backward.isDefEq.respectTransparency.types false in
/-- From any memory whose counters are zero, every weakly fair execution on the eight devices ends, and in every final state
    each device has its arguments unchanged, its result holding what the body computes of them, and every counter is zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v13) = outBuf (inputsOf m) c) ∧ r.2.sem = fun _ => 0) := by
  refine Pipeline.θ_run_regions_kit_dev_sems (pcfgs (F := F)) adm (dats m) () cellOf_inj EP defs₀ 𝒱₀ L lv m ρ main (parts m)
    (fun c Q => by
      rewrite [main_chain c, Pipeline.Seg.run_eq_chain,
        show (parts m c).map Pipeline.Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [parts, segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := held₀ m) (Tₙ := fun c => iprop(StableHlo.held (c : Thread nD τ) (Pipeline.ucRefs τ sig) (Vend m c) ∗ semVal (barC c) 0))
    (hch := fun c => ⟨.rfl, .rfl, .rfl, reg_pre m c, reg_post m c⟩)
    (hinit := init m ρ)
    (QY := fun c s => (s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_v13) = outBuf (inputsOf m) c) ∧ s.sem (barC c) = 0)
    (hfin := fun c s' => ?_)
    (hQ := fun s h hs => ⟨fun c => (h c).1, sem_eq_zero hs fun c sm hsm => by
        obtain rfl := only_barrier sm hsm
        exact (h c).2⟩)
  unfold StableHlo.held
  iintro ⟨⟨Hh, Hb⟩, HSI⟩
  icombine HSI Hb gives %hb
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (kept0 m c),
      (h (Proc.devRef .tc main_arg1) (Finset.mem_filter.mpr ⟨StableHlo.devRef_mem_tcRefs main_arg1, by decide⟩)).trans (kept1 m c),
      (h (Proc.devRef .tc main_v13) (Finset.mem_filter.mpr ⟨StableHlo.devRef_mem_tcRefs main_v13, by decide⟩)).trans (Vend_result m c)⟩, by simpa using hb⟩
  · iexact HSI

end Run

end Cert.KernelIdeal.Own
-- ==== Proof.Value.Gather.lean ====
/- Rows, or columns, of a matrix taken at an array of positions, read at an index. -/
module

public import Idealize.ShloMosaic.Lib.ValueIdxCore

@[expose] public section

noncomputable section

namespace Cert.Lookup

open Idealize.ShloMosaic Idealize.ShloMosaic.ValueIdx

variable {α : Type}

/-- Whole rows of an `N` by `D` matrix, one for each of `B` positions. -/
abbrev rowDims (N D B : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- Whole columns of an `R` by `N` matrix, one for each of `B` positions. -/
abbrev colDims (R N B : Nat)
    (wf : GatherDims.WF ⟨2, ![R, N]⟩ ⟨2, ![B, 1]⟩ ⟨2, ![R, B]⟩ [0] [1] [] [1] [] 1 ![R, 1]) :
    GatherDims ⟨2, ![R, N]⟩ ⟨2, ![B, 1]⟩ ⟨2, ![R, B]⟩ where
  offsetDims := [0]
  collapsedSliceDims := [1]
  operandBatchingDims := []
  startIndicesBatchingDims := []
  startIndexMap := [1]
  indexVectorDim := 1
  sliceSizes := ![R, 1]
  wf := wf

/-- Element `(b, l)` of the rows taken is element `l` of the row that position `b` names, a position outside the matrix
    naming the nearest row. -/
theorem rows_at {N D B w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (p : IVec ⟨2, ![B, 1]⟩ w) (b : Fin B) (l : Fin D) :
    Host.gather (rowDims N D B wf) x p (ix2 b l) = x (ix2 ⟨min (p (ix2 b 0)).toInt.toNat (N - 1), by omega⟩ l) := by
  unfold Host.gather
  refine congrArg x (funext fun a => Fin.ext ?_)
  show (rowDims N D B wf).start (ix2 b l) p a + (rowDims N D B wf).batchCoord (ix2 b l) a
    + (rowDims N D B wf).offCoord (ix2 b l) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowDims N D B wf).startIndexMap from List.mem_singleton.mpr rfl)]
    have hs (h) : (rowDims N D B wf).siIdx (ix2 b l) ⟨List.idxOf (⟨0, by decide⟩ : Fin 2) (rowDims N D B wf).startIndexMap, h⟩ = ix2 b 0 := by
      funext c; apply Fin.ext
      match c with
      | ⟨0, _⟩ => rfl
      | ⟨1, _⟩ => rfl
    rw [hs]
    rfl
  | ⟨1, _⟩ =>
    unfold GatherDims.start
    rw [dif_neg (fun h => absurd (congrArg Fin.val (List.mem_singleton.mp h)) (by simp)), Nat.zero_add]
    rfl

/-- Element `(r, b)` of the columns taken is element `r` of the column that position `b` names, a position outside the
    matrix naming the nearest column. -/
theorem cols_at {R N B w : Nat} (hN : 0 < N)
    (wf : GatherDims.WF ⟨2, ![R, N]⟩ ⟨2, ![B, 1]⟩ ⟨2, ![R, B]⟩ [0] [1] [] [1] [] 1 ![R, 1])
    (x : (⟨2, ![R, N]⟩ : Shape).Idx → α) (p : IVec ⟨2, ![B, 1]⟩ w) (r : Fin R) (b : Fin B) :
    Host.gather (colDims R N B wf) x p (ix2 r b) = x (ix2 r ⟨min (p (ix2 b 0)).toInt.toNat (N - 1), by omega⟩) := by
  unfold Host.gather
  refine congrArg x (funext fun a => Fin.ext ?_)
  show (colDims R N B wf).start (ix2 r b) p a + (colDims R N B wf).batchCoord (ix2 r b) a
    + (colDims R N B wf).offCoord (ix2 r b) a = _
  rw [GatherDims.batchCoord_eq_zero _ _ _ List.not_mem_nil, Nat.add_zero]
  match a with
  | ⟨0, _⟩ =>
    unfold GatherDims.start
    rw [dif_neg (fun h => absurd (congrArg Fin.val (List.mem_singleton.mp h)) (by simp)), Nat.zero_add]
    rfl
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by decide⟩ : Fin 2) ∈ (colDims R N B wf).startIndexMap from List.mem_singleton.mpr rfl)]
    have hs (h) : (colDims R N B wf).siIdx (ix2 r b) ⟨List.idxOf (⟨1, by decide⟩ : Fin 2) (colDims R N B wf).startIndexMap, h⟩ = ix2 b 0 := by
      funext c; apply Fin.ext
      match c with
      | ⟨0, _⟩ => rfl
      | ⟨1, _⟩ => rfl
    rw [hs]
    rfl

end Cert.Lookup

end
-- ==== Proof.Value.Order.lean ====
/- The order in which a device serves the blocks, and the indices rearranged in that order, as the program computes
   them before the kernel runs. -/
module

public import proofs.«01_k».proof.Proof.Value.Gather
public import proofs.«01_k».proof.Proof.KernelIdeal.Region
public import Idealize.ShloMosaic.Lib.StableHlo.Run

@[expose] public section

noncomputable section

namespace Cert.KernelIdeal.Own

open Cert.KernelIdeal Cert.KernelIdeal.Gen
open Idealize.ShloMosaic Idealize.ShloMosaic.TcCoe Idealize.ShloMosaic.ValueIdx

/-- The device's number plus one plus the position. -/
def sums (c : Dev nD) : IVec S8 32 :=
  addi (broadcastInDim S8 ![] bcast_S_S8 (addi (Host.remui (Host.divui (constantI S_ 32 (Dev.word c)) (constantI S_ 32 1#32)) (constantI S_ 32 8#32))
    (constantI S_ 32 1#32))) (iotaInDim S8 32 0)

/-- The divisor, with one in place of zero. -/
def divisor (b : IVec S_ 32) : IVec S_ 32 := select (cmpi .eq b (constantI S_ 32 0#32)) (constantI S_ 32 1#32) b

/-- The remainder with the divisor's sign. -/
def remains (a : IVec S8 32) (b : IVec S_ 32) : IVec S8 32 :=
  select (andi (cmpi .ne (cmpi .slt (Host.remsi a (broadcastInDim S8 ![] bcast_S_S8 (divisor b))) (broadcastInDim S8 ![] bcast_S_S8 (constantI S_ 32 0#32)))
        (broadcastInDim S8 ![] bcast_S_S8 (cmpi .slt (divisor b) (constantI S_ 32 0#32))))
      (cmpi .ne (Host.remsi a (broadcastInDim S8 ![] bcast_S_S8 (divisor b))) (broadcastInDim S8 ![] bcast_S_S8 (constantI S_ 32 0#32))))
    (addi (Host.remsi a (broadcastInDim S8 ![] bcast_S_S8 (divisor b))) (broadcastInDim S8 ![] bcast_S_S8 (divisor b)))
    (Host.remsi a (broadcastInDim S8 ![] bcast_S_S8 (divisor b)))

/-- The positions, as a column, a negative one counted from the end. -/
def starts (a : IVec S8 32) : IVec S8x1 32 :=
  broadcastInDim S8x1 ![0] bcast_S8_S8x1_0 (select (cmpi .slt a (broadcastInDim S8 ![] bcast_S_S8 (constantI S_ 32 0#32)))
    (addi a (broadcastInDim S8 ![] bcast_S_S8 (constantI S_ 32 8#32))) a)

/-- Which positions lie in the array. -/
def fits (a : IVec S8 32) : IVec S8 1 :=
  Host.reduce IntOp.andi (andi (cmpi .sge (starts a) (broadcastInDim S8x1 ![] bcast_S_S8x1 (constantI S_ 32 0#32)))
    (cmpi .sle (starts a) (broadcastInDim S8x1 ![0, 1] bcast_S1x1_S8x1_0_1 (broadcastInDim S1x1 ![1] bcast_S1_S1x1_1 (constantI S1 32 7#32)))))
    (constantI S_ 1 1#1) reducesTo_S8x1_S8_d1 h_S_

/-- The columns at these positions. -/
def taken (x : IVec S128x8 32) (a : IVec S8 32) : IVec S128x8 32 :=
  select (broadcastInDim S128x8 ![1] bcast_S8_S128x8_1 (fits a)) (Host.gather gather_S128x8_S8x1_S128x8_0_1_n_n_1_1_1281 x (starts a))
    (broadcastInDim S128x8 ![] bcast_S_S128x8 (constantI S_ 32 2147483648#32))

/-- The order of device `c`. -/
def order (c : Dev nD) : IVec S8 32 := remains (sums c) (constantI S_ 32 8#32)

/-- The indices in columns of 128. -/
def inCols (x : IVec S1024 32) : IVec S128x8 32 :=
  transpose S128x8 [1, 0] (shapeCast S8x128 x shapeCasts_S1024_S8x128) transposes_S8x128_S128x8_1_0

section Stages

variable {F : FTy → Type} [FloatOps F] (m : (ℓ : Loc nD τ sig) → Buf (Elt F) ℓ) (c : Dev nD)

set_option maxHeartbeats 900000

/-- After the first operations stand the numbers of which the remainders are taken, -/
theorem stage_sums : V1 m c main_v10 = sums c := by
  show StableHlo.after (hostOps0 c) (V0 m c) main_v10 = _
  after_results <;> rfl

/-- the indices in columns, -/
theorem stage_cols : V1 m c main_v6 = inCols (m ((c : Thread nD τ).loc main_arg1)) := by
  show StableHlo.after (hostOps0 c) (V0 m c) main_v6 = _
  after_results <;> rfl

/-- and the number of devices. -/
theorem stage_eight : V1 m c main_c_2 = constantI S_ 32 8#32 := by
  show StableHlo.after (hostOps0 c) (V0 m c) main_c_2 = _
  after_results <;> rfl

/-- Then come the remainders, -/
theorem stage_order : V2 m c main_v11 = remains (V1 m c main_v10) (V1 m c main_c_2) := by
  show StableHlo.after hostOps0_1 (V1 m c) main_v11 = _
  after_results <;> rfl

/-- and the columns taken in that order. -/
theorem stage_taken : V3 m c main_v12 = taken (V2 m c main_v6) (V2 m c main_v11) := by
  show StableHlo.after hostOps0_2 (V2 m c) main_v12 = _
  after_results <;> rfl

/-- What the kernel finds as its first operand. -/
theorem operand : V3 m c main_v12 = taken (inCols (m ((c : Thread nD τ).loc main_arg1))) (order c) := by
  rw [stage_taken, stage_order, stage_sums, stage_eight, V2_of m c main_v6 (by decide), stage_cols]
  rfl

end Stages

/-- Device `c` serves block `(c + 1 + t) mod 8` in position `t`. -/
theorem starts_order (c : Dev nD) (t : Fin 8) : starts (order c) (ix2 t 0) = BitVec.ofNat 32 (c.val + 1 + t.val) % 8 := by
  revert c t; decide +kernel

/-- Every position of the order lies in the array. -/
theorem fits_order (c : Dev nD) (t : Fin 8) : fits (order c) (ix1 t) = 1#1 := by
  revert c t; decide +kernel

end Cert.KernelIdeal.Own

end
-- ==== Proof.Value.Operand.lean ====
/- The rearranged indices the kernel reads, element by element. -/
module

public import proofs.«01_k».proof.Proof.Value.Order
public import proofs.«01_k».proof.Proof.KernelIdeal.Contents
public import Idealize.ShloMosaic.Lib.Pipeline.Value

@[expose] public section

noncomputable section

namespace Cert.KernelIdeal.Own

open Cert.KernelIdeal Cert.KernelIdeal.Gen
open Idealize.ShloMosaic Idealize.ShloMosaic.TcCoe Idealize.ShloMosaic.ValueIdx

/-- Which of the 1024 indices stands in row `r` of block `k`. -/
def rowOf (k : Dev nD) (r : Fin 128) : Fin 1024 := ⟨k.val * 128 + r.val, by have := k.isLt; have : k.val < 8 := k.isLt; omega⟩

/-- The column taken in position `t` is the one of the block served there. -/
theorem place_order (c : Dev nD) (t : Fin 8) :
    min (starts (order c) (ix2 t 0)).toInt.toNat (8 - 1) = (around c t.val).val := by
  revert c t; decide +kernel

/-- The indices in columns of 128: column `k` holds block `k`. -/
theorem inCols_at (x : IVec S1024 32) (r : Fin 128) (k : Dev nD) : inCols x (ix2 r k) = x (ix1 (rowOf k r)) := by
  unfold inCols
  rw [transpose_apply [1, 0] _ transposes_S8x128_S128x8_1_0 (ix2 r k) (ix2 k r) (fun b => by
    match b with
    | ⟨0, _⟩ => rfl
    | ⟨1, _⟩ => rfl)]
  exact shapeCast_apply x shapeCasts_S1024_S8x128 _ _ (by
    rw [Shape.rowMajor_val_two, Shape.rowMajor_val_one]; rfl)

/-- Row `r` of the columns taken, in position `t`. -/
theorem taken_at (x : IVec S128x8 32) (c : Dev nD) (r : Fin 128) (t : Fin 8) :
    taken x (order c) (ix2 r t) = x (ix2 r (around c t.val)) := by
  have hf : (broadcastInDim S128x8 ![1] bcast_S8_S128x8_1 (fits (order c))) (ix2 r t) = 1#1 := by
    rw [broadcastInDim_apply ![1] bcast_S8_S128x8_1 (fits (order c)) (ix2 r t) (ix1 t) (fun a => by
      match a with
      | ⟨0, _⟩ => rfl)]
    exact fits_order c t
  have hg : Host.gather gather_S128x8_S8x1_S128x8_0_1_n_n_1_1_1281 x (starts (order c)) (ix2 r t)
      = x (ix2 r (around c t.val)) := by
    refine (Cert.Lookup.cols_at (by decide) gather_S128x8_S8x1_S128x8_0_1_n_n_1_1_1281.wf x (starts (order c)) r t).trans ?_
    exact congrArg (fun k => x (ix2 r k)) (Fin.ext (place_order c t))
  unfold taken
  show (if (broadcastInDim S128x8 ![1] bcast_S8_S128x8_1 (fits (order c))) (ix2 r t) = 1#1 then _ else _) = _
  rw [if_pos hf, hg]

variable {F : FTy → Type} [FloatOps F] (m : (ℓ : Loc nD τ sig) → Buf (Elt F) ℓ) (c : Dev nD)

/-- The kernel's first operand holds, in row `r` and position `t`, index `r` of the block served in position `t`. -/
theorem operand_at (r : Fin 128) (t : Fin 8) :
    V3 m c main_v12 (ix2 r t) = m ((c : Thread nD τ).loc main_arg1) (ix1 (rowOf (around c t.val) r)) := by
  rw [operand]
  exact (taken_at _ c r t).trans (inCols_at _ r _)

end Cert.KernelIdeal.Own

end
-- ==== Proof.Value.Part.lean ====
/- What one device contributes to a block of the result, in exact arithmetic. -/
module

public import proofs.«01_k».proof.Proof.KernelIdeal.Contents
public import Idealize.ShloMosaic.Lib.MatmulPlain
public import Idealize.ShloMosaic.Lib.KernelVsHost
public import Idealize.ShloMosaic.Lib.Affine

@[expose] public section

noncomputable section

namespace Cert.KernelIdeal.Own

open Cert.KernelIdeal Cert.KernelIdeal.Gen
open Idealize.ShloMosaic Idealize.ShloMosaic.TcCoe Idealize.ShloMosaic.ValueIdx
open scoped BigOperators

/-- A comparison for equality, turned into a number, is one or zero. -/
theorem mark (a b : BitVec 32) :
    (FloatOps.sitofp (F := Ideal) .f32 ((IntOp.cmpi .eq a b).setWidth 32) : Ideal .f32) = if a = b then (1 : EReal) else 0 := by
  show ((((IntOp.cmpi .eq a b).setWidth 32).toInt : ℝ) : EReal) = _
  by_cases h : a = b
  · rw [if_pos h, IntOp.cmpi_eq.mpr h]; norm_num
  · have h0 : IntOp.cmpi .eq a b = 0#1 := by
      have hn : ¬ IntOp.cmpi .eq a b = 1#1 := fun e => h (IntOp.cmpi_eq.mp e)
      revert hn; generalize IntOp.cmpi .eq a b = z; revert z; decide
    rw [if_neg h, h0]; norm_num

/-- A column less a number, spread over the columns of a wider array. -/
theorem spread_at (w : BitVec 32) (x : IVec S128x1 32) (r : Fin 128) (j : Fin 4096) :
    broadcastTo S128x4096 (subi x (broadcast S128x1 w)) broadcasts_S128x1_S128x4096 (ix2 r j) = x (ix2 r 0) - w := by
  rw [broadcastTo_apply _ broadcasts_S128x1_S128x4096 (ix2 r j) (ix2 r 0) (fun a => by
    match a with
    | ⟨0, _⟩ => rfl
    | ⟨1, _⟩ => rfl)]
  rfl

/-- The chunk of one device: the table against, in each row, the mark of the column the index names. -/
theorem product_at (w : BitVec 32) (T : Vec Ideal S4096x512 .f32) (x : Vec Ideal S128x1 .i32) (r : Fin 128) (l : Fin 512) :
    k0_pay2 (F := Ideal) w T x (ix3 0 r l)
      = ∑ j : Fin 4096, (if x (ix2 r 0) - w * 4096#32 = BitVec.ofNat 32 j.val then (1 : EReal) else 0) * T (ix2 j l) := by
  unfold k0_pay2
  refine (shapeCast_addUnit_apply ![128, 512] _ shapeCasts_S128x512_S1x128x512 (ix3 0 r l)).trans ?_
  rw [show (fun a : Fin 2 => (ix3 0 r l : S1x128x512.Idx) a.succ) = (ix2 r l : S128x512.Idx) from funext fun a => by
    match a with
    | ⟨0, _⟩ => rfl
    | ⟨1, _⟩ => rfl]
  rw [show dot_S128x4096_S4096x512_S128x512_1_0_0_1_n_n = DotDims.plain 128 4096 512 from rfl]
  refine (Ideal.matmul_plain_apply (M := 128) (K := 4096) (N := 512) (φ₁ := .bf16) (φ₂ := .bf16) none _ _ _ r l).trans ?_
  rw [show (constant S128x512 .f32 0x00000000#32 : FVec Ideal S128x512 .f32) (ix2 r l) = (0 : EReal) from Ideal.ofBits_zero_f32, zero_add]
  refine Finset.sum_congr rfl fun j _ => ?_
  congr 1
  · rw [shapeCast_self]
    refine (mark _ _).trans ?_
    rw [spread_at, iota_single_apply]
    rfl
  · unfold k0_pay1
    rw [shapeCast_self]
    rfl

end Cert.KernelIdeal.Own

end
-- ==== Proof.Value.Total.lean ====
/- A block of the result summed over the devices, and the whole result, in exact arithmetic. -/
module

public import proofs.«01_k».proof.Proof.Value.Part
public import Mathlib.Algebra.BigOperators.Fin

@[expose] public section

noncomputable section

namespace Cert.KernelIdeal.Own

open Cert.KernelIdeal Cert.KernelIdeal.Gen
open Idealize.ShloMosaic Idealize.ShloMosaic.TcCoe Idealize.ShloMosaic.ValueIdx
open scoped BigOperators

/-- The device's number as the kernel computes it is its number. -/
theorem myWord_eq (s : Dev nD) : myWord s = BitVec.ofNat 32 s.val := by
  revert s; decide +kernel

/-- An index names row `j` of device `s`'s part of the table exactly when it is `4096 s + j`. -/
theorem names_iff (n : Nat) (hn : n < 32768) (s : Dev nD) (j : Fin 4096) :
    BitVec.ofNat 32 n - BitVec.ofNat 32 s.val * 4096#32 = BitVec.ofNat 32 j.val ↔ n = s.val * 4096 + j.val := by
  have hs : s.val < 8 := s.isLt
  have hj := j.isLt
  rw [← BitVec.toNat_inj]
  simp only [BitVec.toNat_sub, BitVec.toNat_mul, BitVec.toNat_ofNat]
  omega

/-- The device that holds row `n` of the table. -/
def owner (n : Nat) (hn : n < 32768) : Dev nD := ⟨n / 4096, by show _ < 8; omega⟩

/-- Where in that device's part of the table the row stands. -/
def place (n : Nat) : Fin 4096 := ⟨n % 4096, Nat.mod_lt _ (by decide)⟩

/-- A column of the rearranged indices, element by element. -/
theorem col_at (x : Vec Ideal S128x8 .i32) (t : Fin 8) (r : Fin 128) : col x t (ix2 r 0) = x (ix2 r t) := by
  unfold col
  rw [View.readAt_apply]
  refine congrArg x (funext fun a => Fin.ext ?_)
  match a with
  | ⟨0, _⟩ => exact (Nat.zero_add _).trans (Nat.one_mul _)
  | ⟨1, _⟩ => exact Nat.add_zero _

variable (I : Inputs Ideal) (k : Dev nD) (r : Fin 128) (l : Fin 512) (n : Nat) (hn : n < 32768)

/-- A device contributes the row the index names when it holds it, and zeros when another does. -/
theorem part_at (s : Dev nD) (h : I.idx s (ix2 r (turn s k)) = BitVec.ofNat 32 n) :
    part I s k (ix3 0 r l) = if owner n hn = s then I.tab s (ix2 (place n) l) else (0 : EReal) := by
  have hs : s.val < 8 := s.isLt
  unfold part
  rw [product_at, col_at, h, myWord_eq]
  simp only [names_iff n hn s]
  by_cases e : owner n hn = s
  · have e' : n / 4096 = s.val := congrArg Fin.val e
    rw [if_pos e, Finset.sum_eq_single (place n)]
    · rw [if_pos (by show n = s.val * 4096 + n % 4096; omega), one_mul]
    · intro j _ hj
      rw [if_neg, zero_mul]
      intro h'
      exact hj (Fin.ext (by have := j.isLt; show j.val = n % 4096; omega))
    · exact fun h' => absurd (Finset.mem_univ _) h'
  · rw [if_neg e]
    refine Finset.sum_eq_zero fun j _ => ?_
    rw [if_neg, zero_mul]
    intro h'
    exact e (Fin.ext (by have := j.isLt; show n / 4096 = s.val; omega))

/-- A chunk read without its leading axis of extent one. -/
theorem flat_at (v : Vec Ideal S1x128x512 .bf16) :
    (shapeCast S128x512 v shapeCasts_S1x128x512_S128x512) (ix2 r l) = v (ix3 0 r l) := by
  refine (shapeCast_dropUnit_apply ![128, 512] v shapeCasts_S1x128x512_S128x512 (ix2 r l)).trans ?_
  exact congrArg v (funext fun a => match a with
    | ⟨0, _⟩ => rfl
    | ⟨1, _⟩ => rfl
    | ⟨2, _⟩ => rfl)

/-- A block summed is the sum of the eight contributions. -/
theorem acc_sum : (acc I k (ix2 r l) : EReal) = ∑ s : Fin 8, (part I s k (ix3 0 r l) : EReal) := by
  rw [Fin.sum_univ_eight]
  simp only [← flat_at]
  rfl

/-- A block summed holds, in each row, the row of the table the index names. -/
theorem acc_at (h : ∀ s, I.idx s (ix2 r (turn s k)) = BitVec.ofNat 32 n) :
    acc I k (ix2 r l) = I.tab (owner n hn) (ix2 (place n) l) := by
  refine (acc_sum I k r l).trans ?_
  rw [Finset.sum_congr rfl fun s _ => part_at I k r l n hn s (h s)]
  exact (Finset.sum_ite_eq Finset.univ (owner n hn) fun s => (I.tab s (ix2 (place n) l) : EReal)).trans
    (if_pos (Finset.mem_univ _))

/-- In exact arithmetic a block received is the block summed. -/
theorem back_eq : k0_pay17 (accB I k) = acc I k := by
  unfold k0_pay17 accB k0_pay16
  rw [shapeCast_shapeCast]
  rfl

/-- Every device ends with the same block, its own or received. -/
theorem outBlock_eq (c : Dev nD) : outBlock I c k = acc I k := by
  unfold outBlock
  split
  · rename_i e; rw [e]
  · exact back_eq I k

/-- Row `b` of the result is the row of the table that index `b` names. -/
theorem outBuf_at (c : Dev nD) (b : Fin 1024)
    (h : ∀ s, I.idx s (ix2 ⟨b.val % 128, Nat.mod_lt _ (by decide)⟩ (turn s ⟨b.val / 128, by have := b.isLt; show _ < 8; omega⟩)) = BitVec.ofNat 32 n) :
    outBuf I c (ix2 b l) = I.tab (owner n hn) (ix2 (place n) l) := by
  have hp : inBlock (ix2 b l) = ix2 ⟨b.val % 128, Nat.mod_lt _ (by decide)⟩ l := funext fun a => match a with
    | ⟨0, _⟩ => rfl
    | ⟨1, _⟩ => rfl
  unfold outBuf
  rw [outBlock_eq, hp]
  exact acc_at I _ _ l n hn h

end Cert.KernelIdeal.Own

end
-- ==== Proof.Value.Reference.lean ====
/- What the reference computes, element by element, and what the condition on the indices says. -/
module

public import proofs.«01_k».proof.Proof.Value.Gather
public import proofs.«01_k».proof.Proof.Gen.ReferenceIdeal.Run
public import proofs.«01_k».proof.Proof.Gen.Pre_in_range_KernelIdeal
public import Idealize.ShloMosaic.Lib.Pipeline.Value
public import Idealize.ShloMosaic.Lib.ReduceAll
public import Idealize.ShloMosaic.PureOps.Ideal.Laws
public import Idealize.ShloMosaic.Lib.Affine

@[expose] public section

noncomputable section

namespace Cert.ReferenceIdeal.Own

open Cert.ReferenceIdeal Cert.ReferenceIdeal.Gen
open Idealize.ShloMosaic Idealize.ShloMosaic.TcCoe Idealize.ShloMosaic.ValueIdx

/-- The indices, a negative one counted from the end of the table. -/
def wrapped (x : IVec S1024 32) : IVec S1024 32 :=
  select (cmpi .slt x (broadcastInDim S1024 ![] bcast_S_S1024 (constantI S_ 32 0#32)))
    (addi x (broadcastInDim S1024 ![] bcast_S_S1024 (constantI S_ 32 32768#32))) x

/-- What the reference returns: the rows of the table that the indices name. -/
def rows (T : Vec Ideal S32768x512 .f32) (x : IVec S1024 32) : Vec Ideal S1024x512 .f32 :=
  Host.gather gather_S32768x512_S1024x1_S1024x512_1_0_n_n_0_1_1512 T (broadcastInDim S1024x1 ![0] bcast_S1024_S1024x1_0 (wrapped x))

/-- A number below the table's length is the same read as a signed word. -/
theorem toInt_small (n : Nat) (hn : n < 32768) : (BitVec.ofNat 32 n).toInt = n := by
  rw [BitVec.toInt_eq_toNat_of_lt] <;> rw [BitVec.toNat_ofNat] <;> omega

/-- A number in the table's range is left as it is. -/
theorem wrapped_at (x : IVec S1024 32) (b : Fin 1024) (n : Nat) (hn : n < 32768) (h : x (ix1 b) = BitVec.ofNat 32 n) :
    wrapped x (ix1 b) = BitVec.ofNat 32 n := by
  unfold wrapped
  show (if IntOp.cmpi .slt (x (ix1 b)) 0#32 = 1#1 then _ else x (ix1 b)) = _
  rw [if_neg, h]
  rw [IntOp.cmpi_slt, h, toInt_small n hn]
  simp

/-- Row `b` of what the reference returns is the row of the table that index `b` names. -/
theorem rows_named (T : Vec Ideal S32768x512 .f32) (x : IVec S1024 32) (b : Fin 1024) (l : Fin 512) (n : Nat) (hn : n < 32768)
    (h : x (ix1 b) = BitVec.ofNat 32 n) : rows T x (ix2 b l) = T (ix2 ⟨n, hn⟩ l) := by
  have hp : broadcastInDim S1024x1 ![0] bcast_S1024_S1024x1_0 (wrapped x) (ix2 b 0) = BitVec.ofNat 32 n := by
    rw [broadcastInDim_apply ![0] bcast_S1024_S1024x1_0 (wrapped x) (ix2 b 0) (ix1 b) (fun a => by
      match a with
      | ⟨0, _⟩ => rfl)]
    exact wrapped_at x b n hn h
  unfold rows
  refine (Cert.Lookup.rows_at (by decide) gather_S32768x512_S1024x1_S1024x512_1_0_n_n_0_1_1512.wf T _ b l).trans ?_
  refine congrArg (fun q => T (ix2 q l)) (Fin.ext ?_)
  show min (broadcastInDim S1024x1 ![0] bcast_S1024_S1024x1_0 (wrapped x) (ix2 b 0)).toInt.toNat (32768 - 1) = n
  rw [hp, toInt_small n hn]
  simp; omega

/-- The condition on the indices: each of them is the number of a row of the table. -/
theorem in_table (T : FVec Ideal Cert.Pre_in_range_KernelIdeal.S4096x512 .f32) (x : IVec S1024 32)
    (h : Cert.Pre_in_range_KernelIdeal.fn (F := Ideal) T x = fun _ => 1#1) (b : Fin 1024) :
    ∃ n, n < 32768 ∧ x (ix1 b) = BitVec.ofNat 32 n := by
  haveI : Subsingleton (Cert.Pre_in_range_KernelIdeal.S_).Idx := ⟨fun a b => funext fun i => i.elim0⟩
  have e := Host.reduce_andi_all _ _ _ _ ix0 (congrFun h ix0) (ix1 b)
  obtain ⟨e0, e1⟩ := IntOp.andi_eq_one.mp e
  have h0 : (0#32 : BitVec 32).toInt ≤ (x (ix1 b)).toInt := IntOp.cmpi_sge.mp e0
  have h1 : (x (ix1 b)).toInt < (32768#32 : BitVec 32).toInt := IntOp.cmpi_slt.mp e1
  rw [show (0#32 : BitVec 32).toInt = 0 by decide] at h0
  rw [show (32768#32 : BitVec 32).toInt = 32768 by decide] at h1
  refine ⟨(x (ix1 b)).toNat, ?_, by simp⟩
  · rw [BitVec.toInt_eq_toNat_cond] at h0 h1
    have := (x (ix1 b)).isLt
    split at h0 <;> omega

end Cert.ReferenceIdeal.Own

end
-- ==== Proof.Value.Equation.lean ====
/- Every device of the kernel ends with what the reference returns. -/
module

public import proofs.«01_k».proof.Proof.Value.Operand
public import proofs.«01_k».proof.Proof.Value.Total
public import proofs.«01_k».proof.Proof.Value.Reference
public import proofs.«01_k».proof.Proof.KernelIdeal.Run
public import Idealize.ShloMosaic.Lib.Layout

@[expose] public section

noncomputable section

namespace Cert.KernelIdeal.Own

open Cert.KernelIdeal Cert.KernelIdeal.Gen
open Idealize.ShloMosaic Idealize.ShloMosaic.TcCoe Idealize.ShloMosaic.ValueIdx

/-- Device `s` serves block `k` in the position in which it does. -/
theorem around_turn (s k : Dev nD) : around s (turn s k).val = k := by
  revert s k; decide

/-- Row `b` of the result lies in block `b / 128`, in row `b % 128` of it. -/
theorem rowOf_split (b : Fin 1024) (hb : b.val / 128 < 8) (hr : b.val % 128 < 128) : rowOf ⟨b.val / 128, hb⟩ ⟨b.val % 128, hr⟩ = b :=
  Fin.ext (by show b.val / 128 * 128 + b.val % 128 = b.val; omega)

variable (m : (ℓ : Loc nD τ sig) → Buf (Elt Ideal) ℓ)

/-- The table's part on the owner of row `n` holds that row in its place. -/
theorem part_of_table (T : Vec Ideal Cert.ReferenceIdeal.S32768x512 .f32) (n : Nat) (hn : n < 32768) (l : Fin 512) :
    Layout.block ⟨2, ![4096, 512]⟩ ⟨2, ![32768, 512]⟩ 0 8 (owner n hn) T (by decide) (ix2 (place n) l) = T (ix2 ⟨n, hn⟩ l) := by
  rw [Layout.block_apply]
  refine congrArg T (funext fun a => Fin.ext ?_)
  match a with
  | ⟨0, _⟩ => exact (by omega : n / 4096 * 4096 + n % 4096 = n)
  | ⟨1, _⟩ => rfl

/-- When every device holds the same indices, each the number of a row, and its part of the table, the result of
    each device is the rows of the table that the indices name. -/
theorem outBuf_rows (T : Vec Ideal Cert.ReferenceIdeal.S32768x512 .f32) (x : IVec Cert.ReferenceIdeal.S1024 32)
    (hx : ∀ b : Fin 1024, ∃ n, n < 32768 ∧ x (ix1 b) = BitVec.ofNat 32 n)
    (hT : ∀ c : Dev nD, m ((c.tc : Thread nD τ).loc main_arg0) = Layout.block ⟨2, ![4096, 512]⟩ ⟨2, ![32768, 512]⟩ 0 8 c T (by decide))
    (hI : ∀ c : Dev nD, m ((c.tc : Thread nD τ).loc main_arg1) = x) (c : Dev nD) :
    outBuf (inputsOf m) c = Cert.ReferenceIdeal.Own.rows T x := by
  funext i
  obtain ⟨b, l, rfl⟩ : ∃ (b : Fin 1024) (l : Fin 512), i = ix2 b l := ⟨i 0, i 1, eq_ix2 i⟩
  obtain ⟨n, hn, hb⟩ := hx b
  have h : ∀ s, (inputsOf m).idx s (ix2 ⟨b.val % 128, Nat.mod_lt _ (by decide)⟩
      (turn s ⟨b.val / 128, by have := b.isLt; show _ < 8; omega⟩)) = BitVec.ofNat 32 n := by
    intro s
    refine (operand_at m s _ _).trans ?_
    rw [around_turn, rowOf_split]
    exact (congrFun (hI s) _).trans hb
  have ht : (inputsOf m).tab (owner n hn) = Layout.block ⟨2, ![4096, 512]⟩ ⟨2, ![32768, 512]⟩ 0 8 (owner n hn) T (by decide) := by
    refine Eq.trans ?_ (hT (owner n hn))
    show V3 m (owner n hn) main_arg0 = _
    rw [V3_of m _ main_arg0 (by decide), V2_of m _ main_arg0 (by decide), V1_of m _ main_arg0 (by decide)]
  rw [outBuf_at (inputsOf m) l n hn c b h, Cert.ReferenceIdeal.Own.rows_named T x b l n hn hb, ht]
  exact part_of_table T n hn l

end Cert.KernelIdeal.Own

end
-- ==== Proof.lean ====
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Gen.Pre_in_range_KernelIdeal
public import proofs.«01_k».proof.Proof.Gen.Pre_in_range_ReferenceIdeal
public import proofs.«01_k».proof.Proof.Value.Equation
public import Idealize.ShloMosaic.Lib.StableHlo.RunHlo

@[expose] public section

noncomputable section

namespace Cert.Proof

open Idealize.ShloMosaic Idealize.SL.Sem

/-- The reference declares no semaphore. -/
theorem no_counter : ∀ sm : SemLoc Cert.ReferenceIdeal.sig, False := by decide

/-- The idealization runs to the end, with its arguments unchanged and every counter back at zero. -/
theorem quiet_idealization : Cert.quiescent_KernelIdeal (hKernelIdeal := Cert.KernelIdeal.Gen.facts) :=
  fun m g _ => θ_run_mono (Cert.KernelIdeal.Own.run_main (F := Ideal) m g) fun _ h => ⟨fun c => ⟨(h.1 c).1, (h.1 c).2.1⟩, h.2⟩

/-- So does the reference. -/
theorem quiet_reference : Cert.quiescent_ReferenceIdeal (hReferenceIdeal := Cert.ReferenceIdeal.Gen.facts) :=
  fun m g _ => θ_run_mono (Cert.ReferenceIdeal.Value.run (F := Ideal) m g) fun _ h =>
    ⟨fun c => (h c).2, funext fun s => (no_counter s.2).elim⟩

/-- Whenever every index is the number of a row of the table, each device of the idealization ends with what the
    reference returns. -/
theorem same_rows : Cert.algebraic_KernelIdeal_ReferenceIdeal_pre_in_range_KernelIdeal (hKernelIdeal := Cert.KernelIdeal.Gen.facts)
    (hReferenceIdeal := Cert.ReferenceIdeal.Gen.facts) (hPre_in_range_KernelIdeal := Cert.Pre_in_range_KernelIdeal.Gen.facts) := by
  intro m g m' g' hpre hin
  have hx := Cert.ReferenceIdeal.Own.in_table _ _ (hpre 0)
  refine ⟨Cert.ReferenceIdeal.Own.rows (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine θ_run_mono (Cert.KernelIdeal.Own.run_main (F := Ideal) m g) fun _ h c => ⟨(h.1 c).2.2.trans ?_, (h.1 c).1, (h.1 c).2.1⟩
    rw [(hin 0).2] at hx
    exact Cert.KernelIdeal.Own.outBuf_rows m _ _ hx (fun c => (hin c).1) (fun c => (hin c).2) c
  · exact θ_run_mono (Cert.ReferenceIdeal.Value.run (F := Ideal) m' g') fun _ h => h 0

/-- Everything claimed. -/
theorem claim : Cert.Claim := ⟨Cert.Kernel.Gen.facts, Cert.KernelIdeal.Gen.facts, Cert.ReferenceIdeal.Gen.facts,
  Cert.Pre_in_range_KernelIdeal.Gen.facts, Cert.Pre_in_range_ReferenceIdeal.Gen.facts,
  fun m g _ => θ_run_mono (Cert.Kernel.Own.run_main (F := Bits) m g) fun _ h => ⟨fun c => ⟨(h.1 c).1, (h.1 c).2.1⟩, h.2⟩,
  quiet_idealization, fun m g _ => quiet_idealization m g trivial, quiet_reference, fun m g _ => quiet_reference m g trivial, trivial, same_rows⟩

end Cert.Proof

end
